-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 16384, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 1024]⟩ ⟨3, ![2, 16384, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S2x4104x1024 : Shape := ⟨3, ![2, 4104, 1024]⟩
abbrev S2x2x1024x1024 : Shape := ⟨4, ![2, 2, 1024, 1024]⟩
abbrev S4 : Shape := ⟨1, ![4]⟩
abbrev S2 : Shape := ⟨1, ![2]⟩
abbrev S_ : Shape := ⟨0, ![]⟩
abbrev S2x3x1024 : Shape := ⟨3, ![2, 3, 1024]⟩
abbrev S1 : Shape := ⟨1, ![1]⟩
abbrev S2x1024x1024 : Shape := ⟨3, ![2, 1024, 1024]⟩
abbrev S1x1024 : Shape := ⟨2, ![1, 1024]⟩
abbrev S1024 : Shape := ⟨1, ![1024]⟩
abbrev S1x1x1024 : Shape := ⟨3, ![1, 1, 1024]⟩
abbrev S1x2x1024x1024 : Shape := ⟨4, ![1, 2, 1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2x4096x1024, .f32⟩
  | .hbm, ⟨1, _⟩ => ⟨S4x1024, .f32⟩
  | .hbm, ⟨2, _⟩ => ⟨S2x4096x1024, .f32⟩
  | .local _ .vmem, ⟨0, _⟩ => ⟨S4x1024, .f32⟩
  | .local _ .vmem, ⟨1, _⟩ => ⟨S2x4104x1024, .f32⟩
  | .local _ .vmem, ⟨2, _⟩ => ⟨S2x2x1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_8 : BitVec 32 := 1#32
  let v12 : BitVec 32 := Scalar.muli v6 c1_i32_8
  let v13 : BitVec 32 := Scalar.addi c0_i32_9 v12
  v13.toNat
def k0_dev4 (d0 : Dev nD) : Nat :=
  let c0_i32_201_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_200_r0 : BitVec 32 := 1#32
  let v244_r0 : BitVec 32 := Scalar.muli v4 c1_i32_200_r0
  let v245_r0 : BitVec 32 := Scalar.addi c0_i32_201_r0 v244_r0
  v245_r0.toNat
def k0_dev5 (d0 : Dev nD) : Nat :=
  let c0_i32_204_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_203_r0 : BitVec 32 := 1#32
  let v246_r0 : BitVec 32 := Scalar.muli v6 c1_i32_203_r0
  let v247_r0 : BitVec 32 := Scalar.addi c0_i32_204_r0 v246_r0
  v247_r0.toNat
abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x16384x1024 : Shape := ⟨3, ![2, 16384, 1024]⟩
abbrev S4x1024 : Shape := ⟨2, ![4, 1024]⟩
abbrev S_ : Shape := ⟨0, ![]⟩
abbrev S2x3x1024 : Shape := ⟨3, ![2, 3, 1024]⟩
abbrev S2x16387x1024 : Shape := ⟨3, ![2, 16387, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024, .f32⟩
  | .hbm, ⟨2, _⟩ => ⟨S_, .f32⟩
  | .hbm, ⟨3, _⟩ => ⟨S2x3x1024, .f32⟩
  | .hbm, ⟨4, _⟩ => ⟨S2x16387x1024, .f32⟩
  | .hbm, ⟨5, _⟩ => ⟨S_, .f32⟩
  | .hbm, ⟨6, _⟩ => ⟨S2x16384x1024, .f32⟩
  | .hbm, ⟨7, _⟩ => ⟨S2x16384x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.Contents.lean ====
/-
  WHAT THE BUFFERS HOLD, for any float values `F`.

  Device `c` holds 4096 rows of `x` (for each of the two batch entries) and the four-row filter `k`. Its padded buffer
  of 4104 rows gets the device's own rows at rows 8 to 4103 and, at rows 5 to 7, the last three rows of the device
  before it — zeros on device 0, which has none before it. Rows 0 to 4 are never written and never read. An element
  of the result is the gated sum of four taps: padded rows `r + 8`, `r + 5`, `r + 6` and `r + 7`, weighted by the
  filter's rows 3, 0, 1 and 2, in this order of summation.
-/
module

public import proofs.«01_k».proof.Proof.Gen.KernelIdeal.Skeleton
public import Idealize.ShloMosaic.Lib.Pipeline.Value
public import Idealize.ShloMosaic.Lib.ValueIdxCore

@[expose] public section

set_option maxRecDepth 16384

noncomputable section

namespace Cert.KernelIdeal.Conv

open Cert.KernelIdeal Cert.KernelIdeal.Gen
open Idealize.ShloMosaic Idealize.ShloMosaic.ValueIdx

variable {F : FTy → Type} [FloatOps F]

/-! ## One element of the result -/

/-- The gate `a / (1 + exp (0 - a))`. -/
def gate (a : F .f32) : F .f32 :=
  FloatOps.divf a (FloatOps.addf (Scalar.ofBits .f32 0x3F800000#32)
    (FloatOps.exp (FloatOps.subf (Scalar.ofBits .f32 0x00000000#32) a)))

/-- The weighted sum of four taps, in the order in which the kernel adds them. -/
def mix (k : FVec F S4x1024 .f32) (ch : Fin 1024) (y3 y0 y1 y2 : F .f32) : F .f32 :=
  FloatOps.addf (FloatOps.addf (FloatOps.addf (FloatOps.mulf y3 (k (ix2 3 ch))) (FloatOps.mulf y0 (k (ix2 0 ch))))
    (FloatOps.mulf y1 (k (ix2 1 ch)))) (FloatOps.mulf y2 (k (ix2 2 ch)))

/-- One chunk of the result, from the filter and the four shifted chunks of the padded buffer. -/
def chunk (k : FVec F S4x1024 .f32) (y3 y0 y1 y2 : FVec F S2x1024x1024 .f32) : FVec F S2x1024x1024 .f32 :=
  fun i => gate (mix k (i 2) (y3 i) (y0 i) (y1 i) (y2 i))

/-! ## The payloads of the stores are chunks -/

omit [FloatOps F] in
/-- Row `t` of the filter, broadcast over the chunk, is that row's entry of the channel. -/
theorem tapRow (t : Nat) (ht : t < 4) (k : FVec F S4x1024 .f32) (h : S4x1024.Slices ![t, 0] S1x1024)
    (i : S2x1024x1024.Idx) :
    broadcastTo S2x1024x1024 (shapeCast S1x1x1024 (shapeCast S1024 (extractStridedSlice S1x1024 ![t, 0] k h)
      shapeCasts_S1x1024_S1024) shapeCasts_S1024_S1x1x1024) broadcasts_S1x1x1024_S2x1024x1024 i
      = k (ix2 ⟨t, ht⟩ (i 2)) := by
  refine (broadcastTo_apply _ _ i (ix3 (n0 := 1) (n1 := 1) (n2 := 1024) 0 0 (i 2)) ?_).trans ?_
  · intro a
    match a with
    | ⟨0, _⟩ => rfl
    | ⟨1, _⟩ => rfl
    | ⟨2, _⟩ => rfl
  refine (shapeCast_apply _ _ _ (ix1 (n := 1024) (i 2)) ?_).trans ?_
  · rw [Shape.rowMajor_val_one, Shape.rowMajor_val_three]; simp
  refine (shapeCast_apply _ _ _ (ix2 (n0 := 1) (n1 := 1024) 0 (i 2)) ?_).trans ?_
  · rw [Shape.rowMajor_val_one, Shape.rowMajor_val_two]; simp
  refine extractStridedSlice_apply _ _ _ _ _ ?_
  intro a
  match a with
  | ⟨0, _⟩ => simp
  | ⟨1, _⟩ => simp

/-- The filter reaches the sums unchanged. -/
theorem pay2_eq (k : FVec F S4x1024 .f32) : k0_pay2 (F := F) k = k := shapeCast_self _ _

/-- The zeros that device 0 writes in its padding rows. -/
theorem pay1_eq : k0_pay1 (F := F) = fun _ => Scalar.ofBits .f32 0x00000000#32 := shapeCast_self _ _

/-- A chunk as it is stored in its slot of the output buffer. -/
abbrev stored (v : FVec F S2x1024x1024 .f32) : FVec F S1x2x1024x1024 .f32 :=
  shapeCast S1x2x1024x1024 v shapeCasts_S2x1024x1024_S1x2x1024x1024

/-- The first chunk's store. -/
theorem pay5_eq (k : FVec F S4x1024 .f32) (y3 y0 y1 y2 : FVec F S2x1024x1024 .f32) :
    k0_pay5 (F := F) (k0_pay3 k y3 y0 y1 y2) (k0_pay4 k y3 y0 y1 y2) (Scalar.ofBits .f32 0x3F800000#32)
      = stored (chunk k y3 y0 y1 y2) := by
  refine congrArg (fun v => stored v) (funext fun i => ?_)
  simp only [k0_pay3, k0_pay4, pay2_eq, divf, addf, mulf, subf, exp, broadcast,
    tapRow 0 (by omega), tapRow 1 (by omega), tapRow 2 (by omega), tapRow 3 (by omega)]
  rfl

/-- The second chunk's store. -/
theorem pay7_eq (k : FVec F S4x1024 .f32) (y3 y0 y1 y2 : FVec F S2x1024x1024 .f32) :
    k0_pay7 (F := F) k (k0_pay6 k y3 y0) y1 y2 = stored (chunk k y3 y0 y1 y2) := by
  refine congrArg (fun v => stored v) (funext fun i => ?_)
  simp only [k0_pay6, divf, addf, mulf, subf, exp, broadcast,
    tapRow 0 (by omega), tapRow 1 (by omega), tapRow 2 (by omega), tapRow 3 (by omega)]
  rfl

/-- The third chunk's store. -/
theorem pay9_eq (k : FVec F S4x1024 .f32) (y3 y0 y1 y2 : FVec F S2x1024x1024 .f32) :
    k0_pay9 (F := F) (k0_pay8 k y3 y0 y1 y2) = stored (chunk k y3 y0 y1 y2) := by
  refine congrArg (fun v => stored v) (funext fun i => ?_)
  simp only [k0_pay8, divf, addf, mulf, subf, exp, broadcast,
    tapRow 0 (by omega), tapRow 1 (by omega), tapRow 2 (by omega), tapRow 3 (by omega)]
  rfl

/-- The fourth chunk's store. -/
theorem pay11_eq (k : FVec F S4x1024 .f32) (y3 y0 y1 y2 : FVec F S2x1024x1024 .f32) :
    k0_pay11 (F := F) k (k0_pay10 k y3) y0 y1 y2 = stored (chunk k y3 y0 y1 y2) := by
  refine congrArg (fun v => stored v) (funext fun i => ?_)
  simp only [k0_pay10, divf, addf, mulf, subf, exp, broadcast,
    tapRow 0 (by omega), tapRow 1 (by omega), tapRow 2 (by omega), tapRow 3 (by omega)]
  rfl

/-! ## Whole buffers -/

/-- The device before `c`, around the ring. -/
def prv (c : Dev nD) : Dev nD := ⟨(c.val + 3) % 4, Nat.mod_lt _ (by decide)⟩
/-- The device after `c`, around the ring. -/
def nxt (c : Dev nD) : Dev nD := ⟨(c.val + 1) % 4, Nat.mod_lt _ (by decide)⟩

theorem prv_nxt (c : Dev nD) : prv (nxt c) = c := by revert c; decide
theorem nxt_prv (c : Dev nD) : nxt (prv c) = c := by revert c; decide
theorem nxt_ne (c : Dev nD) : nxt c ≠ c := by revert c; decide
theorem prv_ne (c : Dev nD) : prv c ≠ c := by revert c; decide
theorem prv_ne_nxt (c : Dev nD) : prv c ≠ nxt c := by revert c; decide

/-- The padded buffer with the previous device's last three rows `xl` landed in rows 5 to 7, and the device's own rows
    `x` after them. -/
def landed (xl x : FVec F S2x4096x1024 .f32) : FVec F S2x4104x1024 .f32 := fun i =>
  if h : (i 1).val < 8 then xl (ix3 (n0 := 2) (n1 := 4096) (n2 := 1024) (i 0) ⟨4088 + (i 1).val, by omega⟩ (i 2))
  else x (ix3 (n0 := 2) (n1 := 4096) (n2 := 1024) (i 0) ⟨(i 1).val - 8, by have : (i 1).val < 4104 := (i 1).isLt; omega⟩ (i 2))

/-- The padded buffer as the taps read it: on the first device (`z`) the rows before its own are zeros. -/
def padded (z : Prop) [Decidable z] (xl x : FVec F S2x4096x1024 .f32) : FVec F S2x4104x1024 .f32 := fun i =>
  if z ∧ (i 1).val < 8 then Scalar.ofBits .f32 0x00000000#32 else landed xl x i

/-- The element of a padded buffer `d` rows below row `r` of the result. -/
def tapAt (X : FVec F S2x4104x1024 .f32) (d : Nat) (hd : d ≤ 8) (i : S2x4096x1024.Idx) : F .f32 :=
  X (ix3 (n0 := 2) (n1 := 4104) (n2 := 1024) (i 0) ⟨(i 1).val + d, by have : (i 1).val < 4096 := (i 1).isLt; omega⟩ (i 2))

/-- The result of a device from its filter and its padded buffer. -/
def outOf (k : FVec F S4x1024 .f32) (X : FVec F S2x4104x1024 .f32) : FVec F S2x4096x1024 .f32 := fun i =>
  gate (mix k (i 2) (tapAt X 8 (by omega) i) (tapAt X 5 (by omega) i) (tapAt X 6 (by omega) i) (tapAt X 7 (by omega) i))

end Cert.KernelIdeal.Conv

end
-- ==== Proof.Geometry.lean ====
/-
  THE WINDOWS OF THE BUFFERS. Every window the kernel moves is a range of rows (axis 1, the other two axes whole) of
  `x`, of the result or of the padded buffer, or one slot of the two-slot output buffer. Here each window's element set
  is named by its row range or slot, what a load or a copy reads through it is written out, and a window overwritten
  by what a function reads there holds that function.
-/
module

public import proofs.«01_k».proof.Proof.Contents
public import Idealize.ShloMosaic.Rules

@[expose] public section

set_option maxRecDepth 16384

noncomputable section

namespace Cert.KernelIdeal.Conv

open Cert.KernelIdeal Cert.KernelIdeal.Gen
open Idealize.ShloMosaic Idealize.ShloMosaic.ValueIdx

variable {F : FTy → Type}

/-! ## The memrefs the body is given, and their windows -/

abbrev xM : Memref sig .tc .hbm S2x4096x1024 .f32 := Memref.whole main_arg0
abbrev kM : Memref sig .tc .vmem S4x1024 .f32 := Memref.whole cc0_stg0_0
abbrev oM : Memref sig .tc .hbm S2x4096x1024 .f32 := Memref.whole main_v1
abbrev pM : Memref sig .tc .vmem S2x4104x1024 .f32 := Memref.whole cc0_scratch0
abbrev bM : Memref sig .tc .vmem S2x2x1024x1024 .f32 := Memref.whole cc0_scratch1

/-- Side condition of a window of 1024 rows of a buffer of 4096 rows, from row `o`. -/
abbrev InX (o : Nat) : Prop := ∀ a, (![0, o, 0] : Fin 3 → Nat) a + S2x1024x1024.size a ≤ S2x4096x1024.size a
/-- Side condition of a window of 1024 rows of the padded buffer, from row `o`. -/
abbrev InP (o : Nat) : Prop := ∀ a, (![0, o, 0] : Fin 3 → Nat) a + S2x1024x1024.size a ≤ S2x4104x1024.size a
/-- Side condition of slot `s` of the output buffer. -/
abbrev InB (s : Nat) : Prop := ∀ a, (![s, 0, 0, 0] : Fin 4 → Nat) a + S1x2x1024x1024.size a ≤ S2x2x1024x1024.size a

/-- 1024 rows of `x`, of the result, of the padded buffer. -/
abbrev xW (o : Nat) (h : InX o) : Memref sig .tc .hbm S2x1024x1024 .f32 :=
  xM.slice (Rect.unit (s := S2x4096x1024) ![0, o, 0] S2x1024x1024.size h) (fun _ => rfl)
abbrev oW (o : Nat) (h : InX o) : Memref sig .tc .hbm S2x1024x1024 .f32 :=
  oM.slice (Rect.unit (s := S2x4096x1024) ![0, o, 0] S2x1024x1024.size h) (fun _ => rfl)
abbrev pW (o : Nat) (h : InP o) : Memref sig .tc .vmem S2x1024x1024 .f32 :=
  pM.slice (Rect.unit (s := S2x4104x1024) ![0, o, 0] S2x1024x1024.size h) (fun _ => rfl)
/-- The last three rows of `x`, and the three rows before the device's own in the padded buffer. -/
abbrev xL : Memref sig .tc .hbm S2x3x1024 .f32 :=
  xM.slice (Rect.unit (s := S2x4096x1024) ![0, 4093, 0] S2x3x1024.size inb_S2x4096x1024_S2x3x1024_0_4093_0) (fun _ => rfl)
abbrev pL : Memref sig .tc .vmem S2x3x1024 .f32 :=
  pM.slice (Rect.unit (s := S2x4104x1024) ![0, 5, 0] S2x3x1024.size inb_S2x4104x1024_S2x3x1024_0_5_0) (fun _ => rfl)
/-- A slot of the output buffer, as the copies read it. -/
abbrev bW (s : Nat) (h : InB s) : Memref sig .tc .vmem S2x1024x1024 .f32 :=
  (bM.slice (Rect.unit (s := S2x2x1024x1024) ![s, 0, 0, 0] S1x2x1024x1024.size h) (fun _ => rfl)).squeeze S2x1024x1024
    squeezes_S1x2x1024x1024_S2x1024x1024

/-! ## Their element sets -/

/-- Rows `a` to `b - 1` of a buffer of `n` rows. -/
def rows (n a b : Nat) : Finset (⟨3, ![2, n, 1024]⟩ : Shape).Idx := Finset.univ.filter fun i => a ≤ (i 1).val ∧ (i 1).val < b

theorem mem_rows {n a b : Nat} {i : (⟨3, ![2, n, 1024]⟩ : Shape).Idx} : i ∈ rows n a b ↔ a ≤ (i 1).val ∧ (i 1).val < b := by
  simp [rows]
/-- A row range inside another. -/
theorem rows_subset {n a b a' b' : Nat} (h : a ≤ a') (h' : b' ≤ b) : rows n a' b' ⊆ rows n a b := fun i hi => by
  rw [mem_rows] at hi ⊢; omega
/-- Two adjacent row ranges make one, and are disjoint. -/
theorem rows_union {n a b c : Nat} (h : a ≤ b) (h' : b ≤ c) : rows n a b ∪ rows n b c = rows n a c := by
  ext i; simp only [Finset.mem_union, mem_rows]; omega
theorem rows_disjoint {n a b c : Nat} : Disjoint (rows n a b) (rows n b c) := by
  rw [Finset.disjoint_left]; intro i hi hj; rw [mem_rows] at hi hj; omega
/-- All rows. -/
theorem rows_univ {n : Nat} : rows n 0 n = Finset.univ := by
  ext i; simp only [mem_rows, Finset.mem_univ, iff_true]
  have : (i 1).val < n := (i 1).isLt
  omega

/-- Slot `s` of the output buffer. -/
def slot (s : Nat) : Finset S2x2x1024x1024.Idx := Finset.univ.filter fun i => (i 0).val = s
theorem mem_slot {s : Nat} {i : S2x2x1024x1024.Idx} : i ∈ slot s ↔ (i 0).val = s := by simp [slot]
theorem slot_union : slot 0 ∪ slot 1 = Finset.univ := by
  ext i; simp only [Finset.mem_union, mem_slot, Finset.mem_univ, iff_true]
  have : (i 0).val < 2 := (i 0).isLt
  omega
theorem slot_disjoint : Disjoint (slot 0) (slot 1) := by
  rw [Finset.disjoint_left]; intro i hi hj; rw [mem_slot] at hi hj; omega

/-- A range of `m` rows from row `o`, all batch entries and channels, as a rectangle's element set. -/
theorem set_rows (n m o : Nat) (h : ∀ a, (![0, o, 0] : Fin 3 → Nat) a + (![2, m, 1024] : Fin 3 → Nat) a ≤ (![2, n, 1024] : Fin 3 → Nat) a) :
    (Rect.unit (s := ⟨3, ![2, n, 1024]⟩) ![0, o, 0] ![2, m, 1024] h).set = rows n o (o + m) := by
  ext i
  rw [Rect.mem_set_unit, mem_rows]
  constructor
  · intro hi; exact hi 1
  · intro hi a
    match a with
    | ⟨0, _⟩ => exact ⟨Nat.zero_le _, by have : (i 0).val < 2 := (i 0).isLt; simpa using this⟩
    | ⟨1, _⟩ => exact hi
    | ⟨2, _⟩ => exact ⟨Nat.zero_le _, by have : (i 2).val < 1024 := (i 2).isLt; simpa using this⟩

theorem set_xW (o : Nat) (h : InX o) : (xW o h).view.set = rows 4096 o (o + 1024) :=
  (View.set_slice_whole _ _).trans (set_rows 4096 1024 o h)
theorem set_oW (o : Nat) (h : InX o) : (oW o h).view.set = rows 4096 o (o + 1024) :=
  (View.set_slice_whole _ _).trans (set_rows 4096 1024 o h)
theorem set_pW (o : Nat) (h : InP o) : (pW o h).view.set = rows 4104 o (o + 1024) :=
  (View.set_slice_whole _ _).trans (set_rows 4104 1024 o h)
theorem set_xL : xL.view.set = rows 4096 4093 4096 :=
  (View.set_slice_whole _ _).trans (set_rows 4096 3 4093 _)
theorem set_pL : pL.view.set = rows 4104 5 8 :=
  (View.set_slice_whole _ _).trans (set_rows 4104 3 5 _)
theorem set_bSlice (s : Nat) (h : InB s) :
    (Rect.unit (s := S2x2x1024x1024) ![s, 0, 0, 0] S1x2x1024x1024.size h).set = slot s := by
  ext i
  rw [Rect.mem_set_unit, mem_slot]
  constructor
  · intro hi
    have h0 : s ≤ (i 0).val ∧ (i 0).val < s + 1 := hi 0
    omega
  · intro hi a
    match a with
    | ⟨0, _⟩ => exact ⟨by simpa using hi.ge, by have : (i 0).val < s + 1 := by omega
                                                simpa using this⟩
    | ⟨1, _⟩ => exact ⟨Nat.zero_le _, by have : (i 1).val < 2 := (i 1).isLt; simpa using this⟩
    | ⟨2, _⟩ => exact ⟨Nat.zero_le _, by have : (i 2).val < 1024 := (i 2).isLt; simpa using this⟩
    | ⟨3, _⟩ => exact ⟨Nat.zero_le _, by have : (i 3).val < 1024 := (i 3).isLt; simpa using this⟩
theorem set_bW (s : Nat) (h : InB s) : (bW s h).view.set = slot s :=
  (View.set_reshape _ _).trans ((View.set_slice_whole _ _).trans (set_bSlice s h))

/-! ## What is read through them -/

/-- The rows `o` to `o + 1023` of a padded buffer. -/
def win (X : S2x4104x1024.Idx → F .f32) (o : Nat) (h : o + 1024 ≤ 4104) : S2x1024x1024.Idx → F .f32 := fun i =>
  X (ix3 (n0 := 2) (n1 := 4104) (n2 := 1024) (i 0) ⟨o + (i 1).val, by have : (i 1).val < 1024 := (i 1).isLt; omega⟩ (i 2))

/-- The rows `o` to `o + 1023` of a buffer of 4096 rows. -/
def xwin (X : S2x4096x1024.Idx → F .f32) (o : Nat) (h : o + 1024 ≤ 4096) : S2x1024x1024.Idx → F .f32 := fun i =>
  X (ix3 (n0 := 2) (n1 := 4096) (n2 := 1024) (i 0) ⟨o + (i 1).val, by have : (i 1).val < 1024 := (i 1).isLt; omega⟩ (i 2))

/-- A rectangle of `m` rows from row `o` places its index `i` at row `o + i`. -/
theorem emb_rows (n m o : Nat) (h : ∀ a, (![0, o, 0] : Fin 3 → Nat) a + (![2, m, 1024] : Fin 3 → Nat) a ≤ (![2, n, 1024] : Fin 3 → Nat) a)
    (i : (⟨3, ![2, m, 1024]⟩ : Shape).Idx) (hlt : o + (i 1).val < n) :
    (Rect.unit (s := ⟨3, ![2, n, 1024]⟩) ![0, o, 0] ![2, m, 1024] h).emb i
      = ix3 (n0 := 2) (n1 := n) (n2 := 1024) (i 0) ⟨o + (i 1).val, hlt⟩ (i 2) := by
  funext a
  apply Fin.ext
  match a with
  | ⟨0, _⟩ => show 0 + 1 * (i 0).val = (i 0).val; omega
  | ⟨1, _⟩ => show o + 1 * (i 1).val = o + (i 1).val; omega
  | ⟨2, _⟩ => show 0 + 1 * (i 2).val = (i 2).val; omega

theorem inP_le {o : Nat} (h : InP o) : o + 1024 ≤ 4104 := h 1
theorem inX_le {o : Nat} (h : InX o) : o + 1024 ≤ 4096 := h 1

theorem read_pW (o : Nat) (h : InP o) (X : S2x4104x1024.Idx → F .f32) :
    (pW o h).view.read (Elt F) X = win X o (inP_le h) := by
  funext i
  exact congrArg X (emb_rows 4104 1024 o h i _)
theorem readAt_pM (o : Nat) (h : InP o) (X : S2x4104x1024.Idx → F .f32) :
    pM.view.readAt (Elt F) (Rect.unit (s := S2x4104x1024) ![0, o, 0] S2x1024x1024.size h).toLoadRect X = win X o (inP_le h) :=
  read_pW o h X
theorem read_xW (o : Nat) (h : InX o) (X : S2x4096x1024.Idx → F .f32) :
    (xW o h).view.read (Elt F) X = xwin X o (inX_le h) := by
  funext i
  exact congrArg X (emb_rows 4096 1024 o h i _)
theorem read_oW (o : Nat) (h : InX o) (X : S2x4096x1024.Idx → F .f32) :
    (oW o h).view.read (Elt F) X = xwin X o (inX_le h) := by
  funext i
  exact congrArg X (emb_rows 4096 1024 o h i _)

/-- The load of the whole filter. -/
theorem readAt_kM (h : ∀ a, (![0, 0] : Fin 2 → Nat) a + S4x1024.size a ≤ S4x1024.size a) (X : S4x1024.Idx → F .f32) :
    kM.view.readAt (Elt F) (Rect.unit (s := S4x1024) ![0, 0] S4x1024.size h).toLoadRect X = X :=
  Memref.readAt_unit_zero (Elt F) cc0_stg0_0 (funext fun a => by fin_cases a <;> rfl) _ X

/-- The output buffer whose slots both hold a chunk `v`. -/
def slotF (v : S2x1024x1024.Idx → F .f32) : S2x2x1024x1024.Idx → F .f32 := fun i =>
  v (ix3 (n0 := 2) (n1 := 1024) (n2 := 1024) (i 1) (i 2) (i 3))

/-- What a slot's rectangle reads in it is the chunk, with the slot's axis of extent one in front. -/
theorem read_slot (s : Nat) (h : InB s) (v : S2x1024x1024.Idx → F .f32) :
    (bM.access (Rect.unit (s := S2x2x1024x1024) ![s, 0, 0, 0] S1x2x1024x1024.size h)).read (Elt F) (slotF v)
      = shapeCast S1x2x1024x1024 v shapeCasts_S2x1024x1024_S1x2x1024x1024 := by
  funext i
  refine Eq.trans ?_ (shapeCast_apply _ _ i (ix3 (n0 := 2) (n1 := 1024) (n2 := 1024) (i 1) (i 2) (i 3)) ?_).symm
  · refine congrArg v (funext fun a => Fin.ext ?_)
    match a with
    | ⟨0, _⟩ => show 0 + 1 * (i 1).val = (i 1).val; omega
    | ⟨1, _⟩ => show 0 + 1 * (i 2).val = (i 2).val; omega
    | ⟨2, _⟩ => show 0 + 1 * (i 3).val = (i 3).val; omega
  · rw [Shape.rowMajor_val_three, Shape.rowMajor_val_four]
    have : (i 0).val < 1 := (i 0).isLt
    simp
    omega

/-- What a copy out of a slot reads in it is the chunk. -/
theorem read_bW (s : Nat) (h : InB s) (v : S2x1024x1024.Idx → F .f32) :
    (bW s h).view.read (Elt F) (slotF v) = v := by
  refine (congrArg (fun w => shapeCast S2x1024x1024 w shapeCasts_S1x2x1024x1024_S2x1024x1024) (read_slot s h v)).trans ?_
  exact shapeCast_shapeCast _ _ _

end Cert.KernelIdeal.Conv

end
-- ==== Proof.Protocol.lean ====
/-
  THE PROTOCOL between the four devices, which stand in a ring: `prv c` before device `c`, `nxt c` after it.

  Four semaphores of each device are signalled from outside its own program order:

  * the BARRIER semaphore. Device `c` waits on it for two units: one from `nxt c` (by its first signal), which hands
    `c` the three rows before `nxt c`'s own in `nxt c`'s padded buffer, to copy into; one from `prv c` (by its second
    signal), which hands nothing.
  * the SEND semaphore of the copy of `c`'s last three rows to `nxt c`, credited on `c` when the copy has left.
  * the RECEIVE semaphore, credited on `c` when `prv c`'s copy has landed: the three rows before `c`'s own come back
    to `c`, holding `prv c`'s last three rows of `x`.
  * the EXIT semaphore. Device `c` waits on it for two units at the end, one from each neighbour; nothing is handed over.

  Each is used for one round. Waits are ordered by levels: the barrier lies below the receive semaphore, that below the
  exit semaphore, and every semaphore for a device's own copies lies below all three. A device waits for its barrier
  owing a copy and two exit units, for its receive semaphore owing the two exit units, and for its exit semaphore owing
  nothing.
-/
module

public import proofs.«01_k».proof.Proof.Geometry
public import proofs.«01_k».proof.Proof.Gen.KernelIdeal.Frame
public import proofs.«01_k».proof.Proof.Gen.KernelIdeal.Launch
public import proofs.«01_k».proof.Proof.Gen.KernelIdeal.Points
public import Idealize.ShloMosaic.Lib.Rounds
public import Idealize.ShloMosaic.Lib.Transfers
public import Idealize.ShloMosaic.Lib.Pipeline
public import Idealize.ShloMosaic.Lib.Tactic

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local copies' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-- Device `c`'s rows of `x`, and its filter. -/
def xs (c : Dev nD) : FVec F S2x4096x1024 .f32 := m ((c : Thread nD τ).loc main_arg0)
def ks (c : Dev nD) : FVec F S4x1024 .f32 := m ((c : Thread nD τ).loc main_arg1)
/-- Device `c`'s padded buffer once `prv c`'s rows have landed, and as the taps read it. -/
def landedAt (c : Dev nD) : FVec F S2x4104x1024 .f32 := landed (xs m (prv c)) (xs m c)
def paddedAt (c : Dev nD) : FVec F S2x4104x1024 .f32 := padded (c.val = 0) (xs m (prv c)) (xs m c)
/-- Device `c`'s result. -/
def outAt (c : Dev nD) : FVec F S2x4096x1024 .f32 := outOf (ks m c) (paddedAt m c)

/-! ## The ring -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)

def ring : Dev nD ≃ Dev nD := ⟨nxt, prv, prv_nxt, nxt_prv⟩

/-! ## The semaphores -/

abbrev barS : Sem sig := (SemArray.scalar (sig.barrier 0 rfl) : Sems sig S_).sem
abbrev exitS : Sem sig := cc0_scoped0.sem
abbrev sendS : DmaSem sig := cc0_scratch4.sem
abbrev recvS : DmaSem sig := cc0_scratch5.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
abbrev exitCell (c : Dev nD) : GSem nD τ sig := ((c : Thread nD τ), .reg exitS)

/-- The ring's four semaphores of a device: barrier, send, receive, exit. -/
abbrev csem : Fin 4 → SemLoc sig := fun | 0 => .reg barS | 1 => .dma sendS | 2 => .dma recvS | 3 => .reg exitS
abbrev kcell (ck : Dev nD × Fin 4) : GSem nD τ sig := ((ck.1 : Thread nD τ), csem ck.2)

/-- The credit of the copy of three rows. -/
abbrev N : ℕ := pL.view.dmaCredit
theorem N_pos : 0 < N := View.dmaCredit_pos _ (by decide)

/-! ## Parts of the buffers -/

/-- Elements `S` of device `c`'s padded buffer at contents `f`. -/
abbrev pPts (c : Dev nD) (S : Finset S2x4104x1024.Idx) (f : S2x4104x1024.Idx → F .f32) : sProp 𝕄 :=
  (pM.view.loc (c : Thread nD τ)) ↦[S]{fullShare} f
/-- Elements `S` of device `c`'s `x`, at a share, with the contents it was launched with. -/
abbrev xPts (c : Dev nD) (q : PosShare TreeShare) (S : Finset S2x4096x1024.Idx) : sProp 𝕄 :=
  (xM.view.loc (c : Thread nD τ)) ↦[S]{q} xs m c
/-- Elements `S` of device `c`'s result at contents `f`. -/
abbrev oPts (c : Dev nD) (S : Finset S2x4096x1024.Idx) (f : S2x4096x1024.Idx → F .f32) : sProp 𝕄 :=
  (oM.view.loc (c : Thread nD τ)) ↦[S]{fullShare} f
/-- Elements `S` of device `c`'s output buffer at contents `f`. -/
abbrev bPts (c : Dev nD) (S : Finset S2x2x1024x1024.Idx) (f : S2x2x1024x1024.Idx → F .f32) : sProp 𝕄 :=
  (bM.view.loc (c : Thread nD τ)) ↦[S]{fullShare} f

/-! ## The schedule -/

/-- What `nxt c`'s barrier signal hands `c`: the three rows before `nxt c`'s own. -/
def barPay (c : Dev nD) : sProp 𝕄 := iprop(∃ f, pPts (nxt c) pL.view.set f)
/-- What the landed copy gives back to `c`: the three rows before its own, holding `prv c`'s last three. -/
def recvPay (c : Dev nD) : sProp 𝕄 := pPts c pL.view.set (landedAt m c)

omit [FloatOps F] in
instance barPay_storable (c : Dev nD) : BI.Storable (upEmb : UEmb _ 𝕄) (barPay (F := F) c) := by unfold barPay; infer_instance
omit [FloatOps F] in
instance recvPay_storable (c : Dev nD) : BI.Storable (upEmb : UEmb _ 𝕄) (recvPay (F := F) m c) := by unfold recvPay; infer_instance

abbrev IsPair (g : GSem nD τ sig) : Prop := g.1.2 = .tc ∧ (g.2 = .reg barS ∨ g.2 = .reg exitS)
abbrev IsCopy (g : GSem nD τ sig) : Prop := g.1.2 = .tc ∧ (g.2 = .dma sendS ∨ g.2 = .dma recvS)

/-- One round each: barrier and exit cells have two duties of one unit, `true` paid by the device after, `false` by the
    device before; send and receive cells one duty of the copy's credit. -/
def ringRd : Rounds.Schedule (GSem nD τ sig) Bool 𝕄 where
  duties g r := if r = 0 ∧ IsPair g then Finset.univ else if r = 0 ∧ IsCopy g then {false} else ∅
  unitless _ := False
  amount g _ _ := if g.2 = .reg barS ∨ g.2 = .reg exitS then 1 else N
  payload g _ d :=
    if g.2 = .reg barS ∧ d = true then barPay g.1.1
    else if g.2 = .dma recvS then recvPay m g.1.1
    else iprop(emp)
  amount_pos g _ _ _ := by
    by_cases h : g.2 = .reg barS ∨ g.2 = .reg exitS
    · rw [if_pos h]; exact Nat.one_pos
    · rw [if_neg h]; exact N_pos

omit [FloatOps F] in
instance ringRd_payload_storable (g : GSem nD τ sig) (r : ℕ) (d : Bool) :
    BI.Storable (upEmb : UEmb _ 𝕄) ((ringRd (F := F) m).payload g r d) := by
  show BI.Storable upEmb (if g.2 = .reg barS ∧ d = true then barPay g.1.1
    else if g.2 = .dma recvS then recvPay m g.1.1 else iprop(emp))
  (repeat' split) <;> infer_instance

section Sched
variable (c : Dev nD)

theorem exit_ne_bar : (SemLoc.reg exitS : SemLoc sig) ≠ .reg barS := by decide
theorem send_ne_recv : (SemLoc.dma sendS : SemLoc sig) ≠ .dma recvS := by decide
theorem dma_ne_reg (a : DmaSem sig) (b : Sem sig) : (SemLoc.dma a : SemLoc sig) ≠ .reg b := fun h => by cases h
theorem reg_ne_dma (a : DmaSem sig) (b : Sem sig) : (SemLoc.reg b : SemLoc sig) ≠ .dma a := fun h => by cases h
theorem not_pair_dma (a : DmaSem sig) : ¬ IsPair ((c : Thread nD τ), .dma a) := fun h => h.2.elim (dma_ne_reg _ _) (dma_ne_reg _ _)

omit [FloatOps F] in
theorem duties_bar : (ringRd (F := F) m).duties (barCell c) 0 = Finset.univ := by
  dsimp only [ringRd]; exact if_pos ⟨rfl, rfl, .inl rfl⟩
omit [FloatOps F] in
theorem duties_exit : (ringRd (F := F) m).duties (exitCell c) 0 = Finset.univ := by
  dsimp only [ringRd]; exact if_pos ⟨rfl, rfl, .inr rfl⟩
omit [FloatOps F] in
theorem duties_send : (ringRd (F := F) m).duties (sendCell c) 0 = {false} := by
  dsimp only [ringRd]; rw [if_neg (fun h => not_pair_dma c _ h.2)]; exact if_pos ⟨rfl, rfl, .inl rfl⟩
omit [FloatOps F] in
theorem duties_recv : (ringRd (F := F) m).duties (recvCell c) 0 = {false} := by
  dsimp only [ringRd]; rw [if_neg (fun h => not_pair_dma c _ h.2)]; exact if_pos ⟨rfl, rfl, .inr rfl⟩
omit [FloatOps F] in
/-- No cell has a second round. -/
theorem duties_later (g : GSem nD τ sig) : ∀ r, 1 ≤ r → (ringRd (F := F) m).duties g r = ∅ :=
  fun r hr => by dsimp only [ringRd]; rw [if_neg fun h => by omega, if_neg fun h => by omega]

omit [FloatOps F] in
theorem amount_bar (d : Bool) : (ringRd (F := F) m).amount (barCell c) 0 d = 1 := by dsimp only [ringRd]; exact if_pos (.inl rfl)
omit [FloatOps F] in
theorem amount_exit (d : Bool) : (ringRd (F := F) m).amount (exitCell c) 0 d = 1 := by dsimp only [ringRd]; exact if_pos (.inr rfl)
omit [FloatOps F] in
theorem amount_dma (a : DmaSem sig) (d : Bool) : (ringRd (F := F) m).amount ((c : Thread nD τ), .dma a) 0 d = N := by
  dsimp only [ringRd]; exact if_neg (fun h => h.elim (dma_ne_reg _ _) (dma_ne_reg _ _))

omit [FloatOps F] in
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_exit : (ringRd (F := F) m).expect (exitCell c) 0 = 2 := by
  unfold Schedule.expect Schedule.amountOf
  rw [duties_exit, Finset.sum_congr rfl fun d _ => amount_exit m c d, Finset.sum_const, Finset.card_univ, Fintype.card_bool, smul_eq_mul]
omit [FloatOps F] in
theorem expect_send : (ringRd (F := F) m).expect (sendCell c) 0 = N := by
  unfold Schedule.expect Schedule.amountOf; rw [duties_send, Finset.sum_singleton, amount_dma]
omit [FloatOps F] in
theorem expect_recv : (ringRd (F := F) m).expect (recvCell c) 0 = N := by
  unfold Schedule.expect Schedule.amountOf; rw [duties_recv, Finset.sum_singleton, amount_dma]

omit [FloatOps F] in
theorem payload_bar_true : (ringRd (F := F) m).payload (barCell c) 0 true = barPay c := by
  dsimp only [ringRd]; exact if_pos ⟨rfl, rfl⟩
omit [FloatOps F] in
theorem payload_bar_false : (ringRd (F := F) m).payload (barCell c) 0 false = iprop(emp) := by
  dsimp only [ringRd]; rw [if_neg (fun h => Bool.false_ne_true h.2)]; exact if_neg (reg_ne_dma _ _)
omit [FloatOps F] in
theorem payload_exit (d : Bool) : (ringRd (F := F) m).payload (exitCell c) 0 d = iprop(emp) := by
  dsimp only [ringRd]; rw [if_neg (fun h => exit_ne_bar h.1)]; exact if_neg (reg_ne_dma _ _)
omit [FloatOps F] in
theorem payload_send (d : Bool) : (ringRd (F := F) m).payload (sendCell c) 0 d = iprop(emp) := by
  dsimp only [ringRd]; rw [if_neg (fun h => dma_ne_reg _ _ h.1)]; exact if_neg send_ne_recv
omit [FloatOps F] in
theorem payload_recv (d : Bool) : (ringRd (F := F) m).payload (recvCell c) 0 d = recvPay m c := by
  dsimp only [ringRd]; rw [if_neg (fun h => dma_ne_reg _ _ h.1)]; exact if_pos rfl

omit [FloatOps F] in
/-- The payloads of the barrier's round: nothing, and `nxt c`'s three rows. -/
theorem rest_bar : bigSep ((ringRd (F := F) m).duties (barCell c) 0 \ ∅) (fun d => (ringRd (F := F) m).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
/-- The payload of the receive round. -/
theorem rest_recv : bigSep ((ringRd (F := F) m).duties (recvCell c) 0 \ ∅) (fun d => (ringRd (F := F) m).payload (recvCell c) 0 d)
    = recvPay m c := by
  rw [Finset.sdiff_empty, duties_recv, bigSep_singleton, payload_recv]

end Sched

/-! ## What a device owes; the levels -/

/-- The two exit units; with the copy to `nxt c`; with the barrier unit of `nxt c`; with that of `prv c`: what a device
    owes from its barrier signals backwards to the launch. -/
def OX (c : Dev nD) : CellTallies nD τ sig Unit := tallyAt (exitCell (nxt c)) () 1 + tallyAt (exitCell (prv c)) () 1
def O₂ (c : Dev nD) : CellTallies nD τ sig Unit := OX c + tallyAt (recvCell (nxt c)) () N
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier 1, receive 2, exit 3, everything else 0. -/
def lvOf (s : SemLoc sig) : ℕ := if s = .reg barS then 1 else if s = .dma recvS then 2 else if s = .reg exitS then 3 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lvOf_bar : lvOf (.reg barS) = 1 := by decide
theorem lvOf_recv : lvOf (.dma recvS) = 2 := by decide
theorem lvOf_exit : lvOf (.reg exitS) = 3 := by decide

/-- A tally's positive entries lie on TensorCore cells of level above `n`. -/
def Above (n : ℕ) (O : CellTallies nD τ sig Unit) : Prop := ∀ g u, 0 < O g u → g.1.2 = .tc ∧ n < lvOf g.2

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.pos_iff_ne_zero.mp hg with hne
  by_cases h0 : 0 < O g u
  · exact h g u h0
  · exact h' g u (by omega)
theorem above_tally (n : ℕ) (c : Dev nD) (s : SemLoc sig) (k : ℕ) (hs : n < lvOf s) : Above n (tallyAt ((c : Thread nD τ), s) () k) := fun g u hg => by
  rw [tallyAt_apply] at hg
  by_cases h : g = ((c : Thread nD τ), s) ∧ u = ()
  · rw [h.1]; exact ⟨rfl, hs⟩
  · rw [if_neg h] at hg; exact absurd hg (Nat.lt_irrefl 0)

theorem above_OX (n : ℕ) (hn : n < 3) (c : Dev nD) : Above n (OX c) :=
  above_add (above_tally n _ _ _ (by rw [lvOf_exit]; exact hn)) (above_tally n _ _ _ (by rw [lvOf_exit]; exact hn))
theorem above_O₂ (n : ℕ) (hn : n < 2) (c : Dev nD) : Above n (O₂ c) :=
  above_add (above_OX n (by omega) c) (above_tally n _ _ _ (by rw [lvOf_recv]; exact hn))
theorem above_O₀ (c : Dev nD) : Above 0 (O₀ c) :=
  above_add (above_add (above_O₂ 0 (by omega) c) (above_tally 0 _ _ _ (by rw [lvOf_bar]; exact Nat.one_pos)))
    (above_tally 0 _ _ _ (by rw [lvOf_bar]; exact Nat.one_pos))

omit [FloatOps F] in
/-- A device may wait on a semaphore below everything it owes. -/
theorem mayWait (c : Dev nD) (s : SemLoc sig) (O : CellTallies nD τ sig Unit) (h : Above (lvOf s) O) :
    (levAts L lv : sProp 𝕄) ⊢ MayWait (c : Thread nD τ) s () O :=
  MayOwe.of_cut (L := L) (lev := lv) (lvOf s)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-! ## The ghost state a device's body starts from -/

/-- The invariants of the cells device `c` waits on or pays, under the names `K`. -/
def invs (K : Dev nD × Fin 4 → ℕ) (c : Dev nD) : sProp 𝕄 :=
  iprop(cellInv ER (ringRd m) (K (c, 0)) (barCell c) ∗ cellInv ER (ringRd m) (K (c, 1)) (sendCell c)
    ∗ cellInv ER (ringRd m) (K (c, 2)) (recvCell c) ∗ cellInv ER (ringRd m) (K (c, 3)) (exitCell c)
    ∗ cellInv ER (ringRd m) (K (nxt c, 0)) (barCell (nxt c)) ∗ cellInv ER (ringRd m) (K (prv c, 0)) (barCell (prv c))
    ∗ cellInv ER (ringRd m) (K (nxt c, 2)) (recvCell (nxt c))
    ∗ cellInv ER (ringRd m) (K (nxt c, 3)) (exitCell (nxt c)) ∗ cellInv ER (ringRd m) (K (prv c, 3)) (exitCell (prv c)))

omit [FloatOps F] in
instance invs_persistent (K : Dev nD × Fin 4 → ℕ) (c : Dev nD) : BI.Persistent (invs (F := F) m K c) := by unfold invs; infer_instance

/-- That the cells device `c` pays are at round 0. -/
def marks (c : Dev nD) : sProp 𝕄 :=
  iprop(reached ER (barCell (nxt c)) 0 ∗ reached ER (barCell (prv c)) 0 ∗ reached ER (recvCell (nxt c)) 0 ∗ reached ER (sendCell c) 0
    ∗ reached ER (exitCell (nxt c)) 0 ∗ reached ER (exitCell (prv c)) 0)

omit [FloatOps F] in
instance marks_persistent (c : Dev nD) : BI.Persistent (marks (F := F) c) := by unfold marks; infer_instance

/-- The tokens of the duties device `c` pays. -/
def payToks (c : Dev nD) : sProp 𝕄 :=
  iprop(dutyTok ER (barCell (nxt c)) 0 false ∗ dutyTok ER (barCell (prv c)) 0 true ∗ dutyTok ER (recvCell (nxt c)) 0 false
    ∗ dutyTok ER (sendCell c) 0 false ∗ dutyTok ER (exitCell (nxt c)) 0 false ∗ dutyTok ER (exitCell (prv c)) 0 true)

/-- Device `c`'s positions, at the start of the rounds of its own four cells. -/
def positions (c : Dev nD) : sProp 𝕄 :=
  iprop(atPos ER (barCell c) 0 ∅ 0 ∗ atPos ER (sendCell c) 0 ∅ 0 ∗ atPos ER (recvCell c) 0 ∅ 0 ∗ atPos ER (exitCell c) 0 ∅ 0)

def ghost (K : Dev nD × Fin 4 → ℕ) (c : Dev nD) : sProp 𝕄 :=
  iprop(invs m K c ∗ marks c ∗ positions c ∗ payToks c)

end Cert.KernelIdeal.Conv

end
-- ==== Proof.Steps.lean ====
/-
  THE STEPS of a device's program on its own buffers, each stated once, for any row range or slot: the load of a window
  of the padded buffer, the copies of a chunk in and out and the waits for them, the store of a chunk in its slot. Every
  part of a buffer is held at ONE function of the whole buffer, the one it has in the end, so that adjacent parts join.
-/
module

public import proofs.«01_k».proof.Proof.Protocol

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the windows hold -/

/-- A chunk of the padded buffer from row `o + 8` holds the device's rows from row `o`. -/
theorem win_own (c : Dev nD) (o o' : Nat) (ho : o' = o + 8) (h : o' + 1024 ≤ 4104) (h' : o + 1024 ≤ 4096) :
    win (paddedAt m c) o' h = xwin (xs m c) o h' := by
  subst ho
  funext i
  unfold win xwin paddedAt padded landed
  dsimp only
  rw [if_neg (fun hh => by have := hh.2; omega), dif_neg (by omega)]
  congr 2
  exact Fin.ext (by show o + 8 + (i 1).val - 8 = o + (i 1).val; omega)

/-- The chunk computed from four shifted windows of a padded buffer is the window of the result. -/
theorem chunk_win (k : FVec F S4x1024 .f32) (X : FVec F S2x4104x1024 .f32) (o o3 o0 o1 o2 : Nat)
    (h : o + 1024 ≤ 4096) (e3 : o3 = o + 8) (e0 : o0 = o + 5) (e1 : o1 = o + 6) (e2 : o2 = o + 7)
    (h3 : o3 + 1024 ≤ 4104) (h0 : o0 + 1024 ≤ 4104) (h1 : o1 + 1024 ≤ 4104) (h2 : o2 + 1024 ≤ 4104) :
    chunk k (win X o3 h3) (win X o0 h0) (win X o1 h1) (win X o2 h2) = xwin (outOf k X) o h := by
  subst e3 e0 e1 e2
  have sh (d : Nat) (hd : d ≤ 8) (hh : o + d + 1024 ≤ 4104) (i : S2x1024x1024.Idx) :
      win X (o + d) hh i = tapAt X d hd (ix3 (n0 := 2) (n1 := 4096) (n2 := 1024) (i 0)
        ⟨o + (i 1).val, by have : (i 1).val < 1024 := (i 1).isLt; omega⟩ (i 2)) := by
    unfold win tapAt
    congr 2
    exact Fin.ext (by show o + d + (i 1).val = o + (i 1).val + d; omega)
  funext i
  unfold chunk xwin outOf
  rw [sh 8 (by omega), sh 5 (by omega), sh 6 (by omega), sh 7 (by omega)]

/-- What the copy of the last three rows delivers: the rows before `c`'s own, as landed. -/
theorem read_pL (xl x : FVec F S2x4096x1024 .f32) :
    pL.view.read (Elt F) (landed xl x) = xL.view.read (Elt F) xl := by
  funext i
  have hi : (i 1).val < 3 := (i 1).isLt
  refine (congrArg (landed xl x) (emb_rows 4104 3 5 _ i (by omega))).trans
    (Eq.trans ?_ (congrArg xl (emb_rows 4096 3 4093 _ i (by omega))).symm)
  unfold landed
  rw [dif_pos (show 5 + (i 1).val < 8 by omega)]
  congr 2
  exact Fin.ext (by show 4088 + (5 + (i 1).val) = 4093 + (i 1).val; omega)

/-- On device 0 the taps read zeros in the three rows before its own. -/
theorem read_pL_zero (xl x : FVec F S2x4096x1024 .f32) :
    pL.view.read (Elt F) (padded True xl x) = k0_pay1 (F := F) := by
  funext i
  have hi : (i 1).val < 3 := (i 1).isLt
  refine (congrArg (padded True xl x) (emb_rows 4104 3 5 _ i (by omega))).trans ?_
  rw [pay1_eq]
  exact if_pos ⟨trivial, show 5 + (i 1).val < 8 by omega⟩

omit [FloatOps F] in
/-- A window overwritten by what `G` reads there holds `G`. -/
theorem pts_written {sp : Space} {s : Shape} {e : EltTy} (v : View sig .tc sp s e) (c : Dev nD) (q : PosShare TreeShare)
    (f G : Buf (Elt F) (v.loc (c : Thread nD τ))) (w : s.Idx → Elt F e) (h : v.read (Elt F) G = w) :
    (v.loc (c : Thread nD τ) ↦[v.set]{q} v.write (Elt F) f w Finset.univ : sProp 𝕄) = v.loc (c : Thread nD τ) ↦[v.set]{q} G := by
  subst h
  refine pointsTo_congr fun i hi => ?_
  rw [View.write_read_eq_piecewise]
  exact Finset.piecewise_eq_of_mem _ _ _ hi

/-- The elements a store in a slot covers, and a load of it. -/
theorem set_slot (s : Nat) (h : InB s) :
    (bM.access (Rect.unit (s := S2x2x1024x1024) ![s, 0, 0, 0] S1x2x1024x1024.size h)).set = slot s :=
  (View.set_slice_whole _ _).trans (set_bSlice s h)
theorem setOn_slot (s : Nat) (h : InB s) :
    bM.view.setOn (Rect.unit (s := S2x2x1024x1024) ![s, 0, 0, 0] S1x2x1024x1024.size h).toLoadRect.set = slot s :=
  (View.set_slice _ _).symm.trans (set_slot s h)

/-! ## The steps -/

abbrev 𝒱₀ : Variants := Variants.none

/-- The credits of the copies of a chunk into the padded buffer and out to the result. -/
abbrev N₁ : ℕ := (pW 8 inb_S2x4104x1024_S2x1024x1024_0_8_0).view.dmaCredit
abbrev N₂ : ℕ := (oW 0 inb_S2x4096x1024_S2x1024x1024_0_0_0).view.dmaCredit
theorem N₁_pos : 0 < N₁ := View.dmaCredit_pos _ (by decide)
theorem N₂_pos : 0 < N₂ := View.dmaCredit_pos _ (by decide)

section
variable (c : Dev nD) {α : Type}

/-- A copy of a chunk in flight: at the wait, the chunk's rows of the padded buffer are `c`'s again, holding its rows. -/
abbrev flyIn (sm : DmaSem sig) (o' : Nat) : sProp 𝕄 :=
  Transfers.Flight EC (c : Thread nD τ) (.dma sm) () N₁ (pPts c (rows 4104 o' (o' + 1024)) (paddedAt m c))

/-- A copy of a computed chunk in flight: at the wait, the chunk's rows of the result and the slot are `c`'s again. -/
abbrev flyOut (sm : DmaSem sig) (s o : Nat) : sProp 𝕄 :=
  Transfers.Flight EC (c : Thread nD τ) (.dma sm) () N₂
    iprop(oPts c (rows 4096 o (o + 1024)) (outAt m c) ∗ ∃ f, bPts c (slot s) f)

/-- The load of a window of the padded buffer. -/
theorem step_load_p (o : Nat) (h : InP o) {hl} {S : Finset S2x4104x1024.Idx} (hS : rows 4104 o (o + 1024) ⊆ S)
    (X : S2x4104x1024.Idx → F .f32) {k : Vec F S2x1024x1024 .f32 → Prog (TpuEff nD τ sig (Elt F) Λ₀ .tc) α} {Q : α → sProp 𝕄} :
    (pPts c S X : sProp 𝕄)
      ⊢ iprop((pPts c S X -∗ wp frame (wpE (defs₀ (F := F)) 𝒱₀ (c : Thread nD τ) none) Set.univ (k (win X o (inP_le h))) Q)
        -∗ wp frame (wpE (defs₀ (F := F)) 𝒱₀ (c : Thread nD τ) none) Set.univ
          (.op (.load pM (Rect.unit (s := S2x4104x1024) ![0, o, 0] S2x1024x1024.size h).toLoadRect hl) k) Q) := by
  have := wp_load (defs := defs₀ (F := F)) (Γ := .empty) 𝒱₀ (c : Thread nD τ) none Set.univ (m := pM) (S := S) (q := fullShare) (f := X) (hl := hl) (k := k) (Q := Q)
    (r := (Rect.unit (s := S2x4104x1024) ![0, o, 0] S2x1024x1024.size h).toLoadRect)
    (by
      refine Finset.Subset.trans ?_ hS
      rw [← set_pW o h]
      exact (View.set_slice _ _).ge)
  rwa [readAt_pM o h X] at this

/-- The load of the filter. -/
theorem step_load_k (h) {hl} {q : PosShare TreeShare} (X : S4x1024.Idx → F .f32)
    {k : Vec F S4x1024 .f32 → Prog (TpuEff nD τ sig (Elt F) Λ₀ .tc) α} {Q : α → sProp 𝕄} :
    ((kM.view.loc (c : Thread nD τ)) ↦[Finset.univ]{q} X : sProp 𝕄)
      ⊢ iprop(((kM.view.loc (c : Thread nD τ) ↦[Finset.univ]{q} X) -∗ wp frame (wpE (defs₀ (F := F)) 𝒱₀ (c : Thread nD τ) none) Set.univ (k X) Q)
        -∗ wp frame (wpE (defs₀ (F := F)) 𝒱₀ (c : Thread nD τ) none) Set.univ
          (.op (.load kM (Rect.unit (s := S4x1024) ![0, 0] S4x1024.size h).toLoadRect hl) k) Q) := by
  have := wp_load (defs := defs₀ (F := F)) (Γ := .empty) 𝒱₀ (c : Thread nD τ) none Set.univ (m := kM) (S := Finset.univ) (q := q) (f := X) (hl := hl) (k := k) (Q := Q)
    (r := (Rect.unit (s := S4x1024) ![0, 0] S4x1024.size h).toLoadRect) (Finset.subset_univ _)
  rwa [readAt_kM h X] at this

/-- The start of a copy of a chunk of `x` into the padded buffer. -/
theorem step_start_in (o o' : Nat) (ho : o' = o + 8) (hX : InX o) (hP : InP o') (sm : DmaSem sig) {hsrc hdst hsem}
    (q : PosShare TreeShare) (f : S2x4104x1024.Idx → F .f32)
    {k : PUnit → Prog (TpuEff nD τ sig (Elt F) Λ₀ .tc) α} {Q : α → sProp 𝕄} :
    iprop(xPts m c q (rows 4096 o (o + 1024)) ∗ pPts c (rows 4104 o' (o' + 1024)) f ∗ semVal ((c : Thread nD τ), SemLoc.dma sm) 0)
      ⊢ iprop((flyIn m c sm o' -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xW o hX) (.here (pW o' hP)) (.dma sm) hsrc hdst hsem) k) Q) := by
  have hw := Transfers.wp_dmaLocal (defs := defs₀ (F := F)) (Q := Q) (k := k) EC 𝒱₀ (c : Thread nD τ) none
    (src := xW o hX) (dst := pW o' hP) (via := .same) (sm := .dma sm) (hsrc := hsrc) (hdst := hdst) (hsem := hsem)
    (q := q) (fs := xs m c) (Sd := (pW o' hP).view.set) (fd := f) () N₁ rfl N₁_pos subset_rfl
  rw [set_xW, set_pW] at hw
  refine hw.trans (wand_mono_left (wand_mono_left (Transfers.Flight_mono EC _ (sep_elim_left.trans (Entails.of_eq ?_)))))
  have he := pts_written (pW o' hP).view c fullShare f (paddedAt m c) ((xW o hX).view.read (Elt F) (xs m c))
    (by rw [read_pW, read_xW]; exact win_own m c o o' ho _ _)
  rw [set_pW] at he
  exact he

/-- The wait for a chunk to be in the padded buffer. -/
theorem step_wait_in (o' : Nat) (sm : DmaSem sig) {b : Ref sig .tc} {hk}
    (hN : b.dmaCredit S2x1024x1024 .f32 = N₁) (O : CellTallies nD τ sig Unit) (W : Waits sig Unit)
    {k : PUnit → Prog (TpuEff nD τ sig (Elt F) Λ₀ .tc) α} {Q : α → sProp 𝕄} :
    iprop(flyIn m c sm o' ∗ owes (c : Thread nD τ) O W ∗ MayWait (c : Thread nD τ) (.dma sm) () O)
      ⊢ iprop(((pPts c (rows 4104 o' (o' + 1024)) (paddedAt m c) ∗ semVal ((c : Thread nD τ), SemLoc.dma sm) 0
            ∗ owes (c : Thread nD τ) O (insert (SemLoc.dma sm, ()) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma sm b S2x1024x1024 .f32 hk) k) Q) :=
  Transfers.wp_waitLocalOSized EC 𝒱₀ (c : Thread nD τ) none () hN

/-- The store of a chunk in a slot of the output buffer, the slot read before and the value read discarded. -/
theorem step_slot (s : Nat) (hB : InB s) {hl hx hm} (v : FVec F S2x1024x1024 .f32) (w : FVec F S1x2x1024x1024 .f32)
    (hw : w = stored v) (f : S2x2x1024x1024.Idx → F .f32)
    {k : PUnit → Prog (TpuEff nD τ sig (Elt F) Λ₀ .tc) α} {Q : α → sProp 𝕄} :
    (bPts c (slot s) f : sProp 𝕄)
      ⊢ iprop((bPts c (slot s) (slotF v) -∗ wp frame (wpE (defs₀ (F := F)) 𝒱₀ (c : Thread nD τ) none) Set.univ (k ⟨⟩) Q)
        -∗ wp frame (wpE (defs₀ (F := F)) 𝒱₀ (c : Thread nD τ) none) Set.univ
          (.op (.load bM (Rect.unit (s := S2x2x1024x1024) ![s, 0, 0, 0] S1x2x1024x1024.size hB).toLoadRect hl) fun _ =>
            .op (.store bM (Rect.unit (s := S2x2x1024x1024) ![s, 0, 0, 0] S1x2x1024x1024.size hB) w Finset.univ hx hm) k) Q) := by
  iintro Hb Hk
  iapply (wp_load 𝒱₀ (c : Thread nD τ) none Set.univ (m := bM) (S := slot s) (setOn_slot s hB).le) $$ Hb
  iintro Hb
  iapply (wp_store 𝒱₀ (c : Thread nD τ) none Set.univ (m := bM)
    (r := Rect.unit (s := S2x2x1024x1024) ![s, 0, 0, 0] S1x2x1024x1024.size hB) (Mk := Finset.univ) (S := slot s)
    ((View.setOn_univ _).trans (set_slot s hB)).le) $$ Hb
  iintro Hb
  iapply Hk
  have he := pts_written (bM.access (Rect.unit (s := S2x2x1024x1024) ![s, 0, 0, 0] S1x2x1024x1024.size hB)) c fullShare f
    (slotF v) w (by rw [hw]; exact read_slot s hB v)
  rw [set_slot s hB] at he
  iapply (Entails.of_eq he) $$ Hb

/-- The start of a copy of a slot to a chunk of the result, the slot holding the chunk's values. -/
theorem step_start_out (s o : Nat) (hB : InB s) (hX : InX o) (sm : DmaSem sig) {hsrc hdst hsem} (v : FVec F S2x1024x1024 .f32)
    (hv : v = xwin (outAt m c) o (inX_le hX)) (f : S2x4096x1024.Idx → F .f32)
    {k : PUnit → Prog (TpuEff nD τ sig (Elt F) Λ₀ .tc) α} {Q : α → sProp 𝕄} :
    iprop(bPts c (slot s) (slotF v) ∗ oPts c (rows 4096 o (o + 1024)) f ∗ semVal ((c : Thread nD τ), SemLoc.dma sm) 0)
      ⊢ iprop((flyOut m c sm s o -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (bW s hB) (.here (oW o hX)) (.dma sm) hsrc hdst hsem) k) Q) := by
  have hw := Transfers.wp_dmaLocal (defs := defs₀ (F := F)) (Q := Q) (k := k) EC 𝒱₀ (c : Thread nD τ) none
    (src := bW s hB) (dst := oW o hX) (via := .same) (sm := .dma sm) (hsrc := hsrc) (hdst := hdst) (hsem := hsem)
    (q := fullShare) (fs := slotF v) (Sd := (oW o hX).view.set) (fd := f) () N₂ rfl N₂_pos subset_rfl
  have he := pts_written (oW o hX).view c fullShare f (outAt m c) ((bW s hB).view.read (Elt F) (slotF v))
    (by rw [read_oW, read_bW]; exact hv.symm)
  rw [set_oW] at he
  rw [set_bW, set_oW] at hw
  refine hw.trans (wand_mono_left (wand_mono_left (Transfers.Flight_mono EC _ ?_)))
  exact BI.sep_mono (Entails.of_eq he) (exists_intro (Φ := fun g => bPts c (slot s) g) (slotF v))

/-- The wait for a chunk to be in the result. -/
theorem step_wait_out (s o : Nat) (sm : DmaSem sig) {b : Ref sig .tc} {hk}
    (hN : b.dmaCredit S2x1024x1024 .f32 = N₂) (O : CellTallies nD τ sig Unit) (W : Waits sig Unit)
    {k : PUnit → Prog (TpuEff nD τ sig (Elt F) Λ₀ .tc) α} {Q : α → sProp 𝕄} :
    iprop(flyOut m c sm s o ∗ owes (c : Thread nD τ) O W ∗ MayWait (c : Thread nD τ) (.dma sm) () O)
      ⊢ iprop((((oPts c (rows 4096 o (o + 1024)) (outAt m c) ∗ ∃ f, bPts c (slot s) f) ∗ semVal ((c : Thread nD τ), SemLoc.dma sm) 0
            ∗ owes (c : Thread nD τ) O (insert (SemLoc.dma sm, ()) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma sm b S2x1024x1024 .f32 hk) k) Q) :=
  Transfers.wp_waitLocalOSized EC 𝒱₀ (c : Thread nD τ) none () hN

end

/-- The copy of the last three rows to the next device: at its landing the next device's three rows before its own hold
    what `landedAt` says, and what is owed for it is paid. -/
theorem step_send (K : Dev nD × Fin 4 → ℕ) (c n : Dev nD) (hn : n = nxt c) {hsc hsrc hdst}
    {hsem : DmaTarget.Typed .hbm (.dma recvS) (.remote (Dev.tc n : Thread nD τ) pL (.dma sendS) hsc)}
    {α : Type} {Q : α → sProp 𝕄} {k : PUnit → Prog (TpuEff nD τ sig (Elt F) Λ₀ .tc) α}
    (q : PosShare TreeShare) (fn : S2x4104x1024.Idx → F .f32) (W : Waits sig Unit) :
    iprop(cellInv ER (ringRd m) (K (c, 1)) (sendCell c) ∗ cellInv ER (ringRd m) (K (nxt c, 2)) (recvCell (nxt c))
        ∗ xPts m c q xL.view.set ∗ pPts (nxt c) pL.view.set fn
        ∗ owes (c : Thread nD τ) (O₂ c) W
        ∗ dutyTok ER (sendCell c) 0 false ∗ reached ER (sendCell c) 0
        ∗ dutyTok ER (recvCell (nxt c)) 0 false ∗ reached ER (recvCell (nxt c)) 0)
      ⊢ iprop(((cred (tallyAt (sendCell c) () N) ∗ owes (c : Thread nD τ) (OX c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xL (.remote (Dev.tc n : Thread nD τ) pL (.dma sendS) hsc) (.dma recvS) hsrc hdst hsem) k) Q) := by
  subst hn
  have hv : pL.view.read (Elt F) (landedAt m (nxt c)) = xL.view.read (Elt F) (xs m c) := by
    unfold landedAt
    rw [prv_nxt, read_pL]
  have hO : O₂ c = OX c + tallyAt (recvCell (nxt c)) () N := rfl
  have hp : xPts m c q xL.view.set ⊢ (ringRd m).payload (sendCell c) 0 false := by
    rw [payload_send]; exact Affine.affine
  have hq : (pL.view.loc (nxt c : Thread nD τ) ↦[pL.view.set]{fullShare} pL.view.write (Elt F) fn (xL.view.read (Elt F) (xs m c)) Finset.univ : sProp 𝕄)
      ⊢ (ringRd m).payload (recvCell (nxt c)) 0 false := by
    rw [payload_recv]
    exact Entails.of_eq (pts_written pL.view (nxt c) fullShare fn (landedAt m (nxt c)) _ hv)
  have hd₁ : false ∈ (ringRd m).duties (sendCell c) 0 := by rw [duties_send]; exact Finset.mem_singleton_self _
  have hd₂ : false ∈ (ringRd m).duties (recvCell (nxt c)) 0 := by rw [duties_recv]; exact Finset.mem_singleton_self _
  have hN : pL.view.amount (SemLoc.dma recvS) = N := rfl
  exact Rounds.wp_send_pointsTo 𝒱₀ ER (ringRd m) (c : Thread nD τ) none (c' := (nxt c : Thread nD τ)) (src := xL) (dst := pL)
    (sS := .dma sendS) (sem := .dma recvS) (κ₁ := K (c, 1)) (κ₂ := K (nxt c, 2)) (q := q) (fs := xs m c)
    (r₁ := 0) (r₂ := 0) (d₁ := false) (d₂ := false) (fd := fn) hd₁ hd₂ () () N hN
    (amount_dma m c sendS false) (amount_dma m (nxt c) recvS false) (OX c) hO (W := W) hp hq

end Cert.KernelIdeal.Conv

end
-- ==== Proof.Body.lean ====
/-
  A DEVICE'S PROGRAM, part by part as it is printed: what each part needs and what it leaves, at a symbolic device `c`.
  Part 1 is the handshake, the send of the last rows and the first copy in; part 2 the other copies in and the landing of
  the rows before the device's own (zeroed on device 0); parts 3 to 8 compute the four chunks out of the padded buffer,
  each stored in a slot of the output buffer and copied out; the tail waits for the last copies and leaves together with
  the two neighbours.
-/
module

public import proofs.«01_k».proof.Proof.Steps

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds -/

/-- What device `c` owes, whatever it has waited for. -/
abbrev ow (c : Dev nD) (O : CellTallies nD τ sig Unit) : sProp 𝕄 := iprop(∃ W : Waits sig Unit, owes (c : Thread nD τ) O W)

/-- Rows `a` to `b - 1` of the padded buffer, holding what the taps read. -/
abbrev pad (c : Dev nD) (a b : Nat) : sProp 𝕄 := pPts c (rows 4104 a b) (paddedAt m c)
/-- Those rows, holding anything. -/
abbrev padAny (c : Dev nD) (a b : Nat) : sProp 𝕄 := iprop(∃ f, pPts c (rows 4104 a b) f)
/-- Rows of the result, holding anything; a slot holding anything. -/
abbrev outAny (c : Dev nD) (a b : Nat) : sProp 𝕄 := iprop(∃ f, oPts c (rows 4096 a b) f)
abbrev slotAny (c : Dev nD) (s : Nat) : sProp 𝕄 := iprop(∃ f, bPts c (slot s) f)
/-- The filter's staging buffer, holding the filter. -/
abbrev kPts (c : Dev nD) : sProp 𝕄 := (kM.view.loc (c : Thread nD τ)) ↦[Finset.univ]{fullShare} ks m c
/-- A semaphore of the device at zero. -/
abbrev sv0 (c : Dev nD) (s : SemLoc sig) : sProp 𝕄 := semVal ((c : Thread nD τ), s) 0

/-- The semaphores of the copies in and of the copies out. -/
abbrev in0 : DmaSem sig := ((cc0_scratch2.slice (Rect.unit (s := S4) ![0] S1.size inb_S4_S1_0)).squeeze S_ squeezes_S1_S_).sem
abbrev in1 : DmaSem sig := ((cc0_scratch2.slice (Rect.unit (s := S4) ![1] S1.size inb_S4_S1_1)).squeeze S_ squeezes_S1_S_).sem
abbrev in2 : DmaSem sig := ((cc0_scratch2.slice (Rect.unit (s := S4) ![2] S1.size inb_S4_S1_2)).squeeze S_ squeezes_S1_S_).sem
abbrev in3 : DmaSem sig := ((cc0_scratch2.slice (Rect.unit (s := S4) ![3] S1.size inb_S4_S1_3)).squeeze S_ squeezes_S1_S_).sem
abbrev out0 : DmaSem sig := ((cc0_scratch3.slice (Rect.unit (s := S2) ![0] S1.size inb_S2_S1_0)).squeeze S_ squeezes_S1_S_).sem
abbrev out1 : DmaSem sig := ((cc0_scratch3.slice (Rect.unit (s := S2) ![1] S1.size inb_S2_S1_1)).squeeze S_ squeezes_S1_S_).sem

omit [FloatOps F] in
/-- A device may wait on any DMA semaphore while it owes only the exit signals. -/
theorem mayWaitX (c : Dev nD) (s : DmaSem sig) : (levAts L lv : sProp 𝕄) ⊢ MayWait (c : Thread nD τ) (.dma s) () (OX c) :=
  mayWait c _ _ (above_OX _ (by
    have h : lvOf (.dma s : SemLoc sig) < 3 := by
      unfold lvOf
      rw [if_neg (by intro h; cases h)]
      split
      · decide
      · rw [if_neg (by intro h; cases h)]; decide
    exact h) c)

/-- Adjacent rows join, and split. -/
theorem pad_join (c : Dev nD) (a b d : Nat) (h : a ≤ b) (h' : b ≤ d) :
    iprop(pad m c a b ∗ pad m c b d) ⊢ pad m c a d := by
  unfold pad pPts
  rw [← rows_union h h']
  exact (pointsTo_union rows_disjoint).2

/-! ## Part 1 -/

variable (K : Dev nD × Fin 4 → ℕ) (c : Dev nD)

set_option maxHeartbeats 800000 in
theorem part1 (q₁ q₂ : PosShare TreeShare) (Q : (Σ' (_ : Dev nD) (_ : BitVec 32) (_ : BitVec 32), BitVec 32) → sProp 𝕄) :
    iprop((invs m K c ∗ marks c ∗ levAts L lv)
        ∗ (atPos ER (barCell c) 0 ∅ 0 ∗ dutyTok ER (barCell (nxt c)) 0 false ∗ dutyTok ER (barCell (prv c)) 0 true
          ∗ dutyTok ER (recvCell (nxt c)) 0 false ∗ dutyTok ER (sendCell c) 0 false ∗ cred (tallyAt (barCell c) () 2) ∗ ow c (O₀ c))
        ∗ (padAny c 5 8 ∗ padAny c 8 1032 ∗ xPts m c q₁ (rows 4096 4093 4096) ∗ xPts m c q₂ (rows 4096 0 1024) ∗ sv0 c (.dma in0))
        ∗ ((atPos ER (barCell c) 1 ∅ 0 ∗ cred (tallyAt (sendCell c) () N) ∗ ow c (OX c) ∗ flyIn m c in0 8)
          -∗ Q ⟨c, Scalar.remsi (Scalar.divsi (Dev.word c) 1#32) 4#32,
              Scalar.remsi (Scalar.addi (Scalar.remsi (Scalar.divsi (Dev.word c) 1#32) 4#32) 3#32) 4#32,
              Scalar.remsi (Scalar.addi (Scalar.remsi (Scalar.divsi (Dev.word c) 1#32) 4#32) 1#32) 4#32⟩))
      ⊢ wp frame (wpE (defs₀ (F := F)) 𝒱₀ (c : Thread nD τ) none) Set.univ
          (k0_part1 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0) Q := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold invs marks
  iintro ⟨⟨⟨#HIb, #HIs, -, -, #HIbN, #HIbP, #HIrN, -, -⟩, ⟨#HmBN, #HmBP, #HmRN, #HmS, -, -⟩, #Hlev⟩,
    ⟨HatB, HtBN, HtBP, HtRN, HtS, HcB, ⟨%W, HO⟩⟩, ⟨⟨%fh, Hh⟩, ⟨%f0, Hp⟩, Hxl, Hx, Hv⟩, Hk⟩
  -- the signal to `prv c`: the three rows before `c`'s own are handed to it
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () (O₁ c) rfl)
    $$ [HO HtBP Hh]
  · isplitr; · iexact HIbP
    isplitl [HO]; · iexact HO
    isplitl [HtBP]; · iexact HtBP
    isplitl [Hh]
    · rw [payload_bar_true]; unfold barPay; rw [nxt_prv, set_pL]
      iexists fh; iexact Hh
    · iexact HmBP
  iintro HO
  -- the signal to `nxt c`
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () (O₂ c) rfl)
    $$ [HO HtBN]
  · isplitr; · iexact HIbN
    isplitl [HO]; · iexact HO
    isplitl [HtBN]; · iexact HtBN
    isplitr; · rw [payload_bar_false]; iempintro
    iexact HmBN
  iintro HO
  -- the wait for both neighbours
  iapply (Rounds.wp_wait_rest_token 𝒱₀ ER (ringRd m) (c : Thread nD τ) none (κ := K (c, 0))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIb
    isplitl [HcB]; · iexact HcB
    isplitl [HO]; · iexact HO
    isplitr
    · iapply (mayWait c (.reg barS) (O₂ c) (above_O₂ _ (by rw [lvOf_bar]; decide) c)); iexact Hlev
    iexact HatB
  iintro ⟨HO, HatB, -, Hpay⟩
  ihave Hp' := (Entails.of_eq (rest_bar m c)) $$ Hpay
  unfold barPay
  icases Hp' with ⟨-, ⟨%fn, HhN⟩⟩
  -- the copy of the last three rows to `nxt c`
  iapply (step_send m K c _ (dev3_eq c) q₁ fn (insert (SemLoc.reg barS, ()) W)) $$ [Hxl HhN HO HtS HtRN]
  · isplitr; · iexact HIs
    isplitr; · iexact HIrN
    isplitl [Hxl]; · rw [set_xL]; iexact Hxl
    isplitl [HhN]; · iexact HhN
    isplitl [HO]; · iexact HO
    isplitl [HtS]; · iexact HtS
    isplitr; · iexact HmS
    isplitl [HtRN]; · iexact HtRN
    iexact HmRN
  iintro ⟨HcS, HO⟩
  -- the first chunk's copy in
  iapply (step_start_in m c 0 8 rfl inb_S2x4096x1024_S2x1024x1024_0_0_0 inb_S2x4104x1024_S2x1024x1024_0_8_0 in0 q₂ f0) $$ [Hx Hp Hv]
  · isplitl [Hx]; · iexact Hx
    isplitl [Hp]; · iexact Hp
    iexact Hv
  iintro Hf
  rw [wp_ret]; imodintro
  iapply Hk
  isplitl [HatB]; · iexact HatB
  isplitl [HcS]; · iexact HcS
  isplitl [HO]; · iexists _; iexact HO
  iexact Hf

/-! ## Part 2 -/

/-- The printed test of part 2 holds on device 0 alone. -/
theorem first_iff (c : Dev nD) :
    Scalar.cmpi .ne (Scalar.extui (Scalar.cmpi .eq (Scalar.remsi (Scalar.divsi (Dev.word c) 1#32) 4#32) 0#32) : BitVec 32) 0#32 = 1#1
      ↔ c.val = 0 := by
  revert c; decide

/-- On device 0 the three rows before its own hold zeros, elsewhere what landed. -/
theorem halo_zero (c : Dev nD) (hc : c.val = 0) (f : S2x4104x1024.Idx → F .f32) :
    ((pM.access (Rect.unit (s := S2x4104x1024) ![0, 5, 0] S2x3x1024.size inb_S2x4104x1024_S2x3x1024_0_5_0)).loc (c : Thread nD τ)
        ↦[rows 4104 5 8]{fullShare} (pM.access (Rect.unit (s := S2x4104x1024) ![0, 5, 0] S2x3x1024.size
          inb_S2x4104x1024_S2x3x1024_0_5_0)).write (Elt F) f (k0_pay1 (F := F)) Finset.univ : sProp 𝕄) = pad m c 5 8 := by
  have he := pts_written (pM.access (Rect.unit (s := S2x4104x1024) ![0, 5, 0] S2x3x1024.size inb_S2x4104x1024_S2x3x1024_0_5_0)) c
    fullShare f (paddedAt m c) (k0_pay1 (F := F)) (by
      have hP : paddedAt m c = padded True (xs m (prv c)) (xs m c) := by
        unfold paddedAt padded; simp only [hc]
      rw [hP]; exact read_pL_zero _ _)
  have hs : (pM.access (Rect.unit (s := S2x4104x1024) ![0, 5, 0] S2x3x1024.size inb_S2x4104x1024_S2x3x1024_0_5_0)).set = rows 4104 5 8 := set_pL
  rw [hs] at he
  exact he
theorem halo_landed (c : Dev nD) (hc : ¬ c.val = 0) :
    (pPts c (rows 4104 5 8) (landedAt m c) : sProp 𝕄) = pad m c 5 8 := by
  refine pointsTo_congr fun i _ => ?_
  unfold landedAt paddedAt padded
  exact (if_neg fun h => hc h.1).symm

set_option maxHeartbeats 1600000 in
theorem part2 (v2 v6 : BitVec 32)
    (hv2 : Scalar.cmpi .ne (Scalar.extui (Scalar.cmpi .eq v2 0#32) : BitVec 32) 0#32 = 1#1 ↔ c.val = 0)
    (q₁ q₂ q₃ : PosShare TreeShare) (Q : PUnit → sProp 𝕄) :
    iprop((invs m K c ∗ levAts L lv)
        ∗ (atPos ER (sendCell c) 0 ∅ 0 ∗ atPos ER (recvCell c) 0 ∅ 0 ∗ cred (tallyAt (sendCell c) () N) ∗ cred (tallyAt (recvCell c) () N)
          ∗ ow c (OX c))
        ∗ (padAny c 1032 2056 ∗ xPts m c q₁ (rows 4096 1024 2048) ∗ sv0 c (.dma in1))
        ∗ (padAny c 2056 3080 ∗ xPts m c q₂ (rows 4096 2048 3072) ∗ sv0 c (.dma in2))
        ∗ (padAny c 3080 4104 ∗ xPts m c q₃ (rows 4096 3072 4096) ∗ sv0 c (.dma in3))
        ∗ ((atPos ER (sendCell c) 1 ∅ 0 ∗ atPos ER (recvCell c) 1 ∅ 0 ∗ ow c (OX c) ∗ pad m c 5 8
            ∗ flyIn m c in1 1032 ∗ flyIn m c in2 2056 ∗ flyIn m c in3 3080)
          -∗ Q ⟨⟩))
      ⊢ wp frame (wpE (defs₀ (F := F)) 𝒱₀ (c : Thread nD τ) none) Set.univ
          (k0_part2 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v2 v6) Q := by
  rw [k0_part2_eq_skeleton]; unfold k0_part2_skel
  simp only [Prog.lift, Prog.bind_op, Prog.bind_ret, Prog.pure_eq_ret]
  unfold invs
  iintro ⟨⟨⟨-, #HIs, #HIr, -⟩, #Hlev⟩, ⟨HatS, HatR, HcS, HcR, ⟨%W, HO⟩⟩, ⟨⟨%f1, Hp1⟩, Hx1, Hv1⟩, ⟨⟨%f2, Hp2⟩, Hx2, Hv2⟩,
    ⟨⟨%f3, Hp3⟩, Hx3, Hv3⟩, Hk⟩
  -- the copies of chunks 1, 2 and 3
  iapply (step_start_in m c 1024 1032 rfl inb_S2x4096x1024_S2x1024x1024_0_1024_0 inb_S2x4104x1024_S2x1024x1024_0_1032_0 in1 q₁ f1) $$ [Hx1 Hp1 Hv1]
  · isplitl [Hx1]; · iexact Hx1
    isplitl [Hp1]; · iexact Hp1
    iexact Hv1
  iintro Hf1
  iapply (step_start_in m c 2048 2056 rfl inb_S2x4096x1024_S2x1024x1024_0_2048_0 inb_S2x4104x1024_S2x1024x1024_0_2056_0 in2 q₂ f2) $$ [Hx2 Hp2 Hv2]
  · isplitl [Hx2]; · iexact Hx2
    isplitl [Hp2]; · iexact Hp2
    iexact Hv2
  iintro Hf2
  iapply (step_start_in m c 3072 3080 rfl inb_S2x4096x1024_S2x1024x1024_0_3072_0 inb_S2x4104x1024_S2x1024x1024_0_3080_0 in3 q₃ f3) $$ [Hx3 Hp3 Hv3]
  · isplitl [Hx3]; · iexact Hx3
    isplitl [Hp3]; · iexact Hp3
    iexact Hv3
  iintro Hf3
  -- the wait on the send semaphore
  iapply (Rounds.wp_wait_rest_token 𝒱₀ ER (ringRd m) (c : Thread nD τ) none (κ := K (c, 1))
      (wpE_waitDma2_eq 𝒱₀ (c : Thread nD τ) none Set.univ) (Set.mem_univ _) () (O := OX c) (W := W) (R := 0) (m := 0) (T := ∅)
      (by rw [Nat.zero_add, expect_send])) $$ [HcS HO HatS]
  · isplitr; · iexact HIs
    isplitl [HcS]; · iexact HcS
    isplitl [HO]; · iexact HO
    isplitr; · iapply (mayWaitX c sendS); iexact Hlev
    iexact HatS
  iintro ⟨HO, HatS, -, -⟩
  -- the wait for the rows of `prv c` to have landed
  iapply (Rounds.wp_wait_rest_token 𝒱₀ ER (ringRd m) (c : Thread nD τ) none (κ := K (c, 2))
      (wpE_waitDma2_eq 𝒱₀ (c : Thread nD τ) none Set.univ) (Set.mem_univ _) () (O := OX c)
      (W := insert (SemLoc.dma sendS, ()) W) (R := 0) (m := 0) (T := ∅)
      (by rw [Nat.zero_add, expect_recv])) $$ [HcR HO HatR]
  · isplitr; · iexact HIr
    isplitl [HcR]; · iexact HcR
    isplitl [HO]; · iexact HO
    isplitr; · iapply (mayWaitX c recvS); iexact Hlev
    iexact HatR
  iintro ⟨HO, HatR, -, Hpay⟩
  ihave Hh := (Entails.of_eq (rest_recv m c)) $$ Hpay
  unfold recvPay
  rw [set_pL]
  by_cases hc : c.val = 0
  · rw [dif_pos (hv2.mpr hc)]
    simp only [Prog.bind_op, Prog.bind_ret]
    iapply (wp_load 𝒱₀ (c : Thread nD τ) none Set.univ (m := pM) (S := rows 4104 5 8)
      ((View.set_slice _ _).symm.trans set_pL).le) $$ Hh
    iintro Hh
    iapply (wp_store 𝒱₀ (c : Thread nD τ) none Set.univ (m := pM)
      (r := Rect.unit (s := S2x4104x1024) ![0, 5, 0] S2x3x1024.size inb_S2x4104x1024_S2x3x1024_0_5_0) (Mk := Finset.univ)
      (S := rows 4104 5 8) ((View.setOn_univ _).trans set_pL).le) $$ Hh
    iintro Hh
    ihave Hh := (Entails.of_eq (halo_zero m c hc (landedAt m c))) $$ Hh
    rw [wp_ret]; imodintro
    iapply Hk
    isplitl [HatS]; · iexact HatS
    isplitl [HatR]; · iexact HatR
    isplitl [HO]; · iexists _; iexact HO
    isplitl [Hh]; · iexact Hh
    isplitl [Hf1]; · iexact Hf1
    isplitl [Hf2]; · iexact Hf2
    iexact Hf3
  · rw [dif_neg (fun h => hc (hv2.mp h))]
    simp only [Prog.bind_op, Prog.bind_ret]
    ihave Hh := (Entails.of_eq (halo_landed m c hc)) $$ Hh
    rw [wp_ret]; imodintro
    iapply Hk
    isplitl [HatS]; · iexact HatS
    isplitl [HatR]; · iexact HatR
    isplitl [HO]; · iexists _; iexact HO
    isplitl [Hh]; · iexact Hh
    isplitl [Hf1]; · iexact Hf1
    isplitl [Hf2]; · iexact Hf2
    iexact Hf3

end Cert.KernelIdeal.Conv

end
-- ==== Proof.Chunks.lean ====
/-
  THE CHUNKS: parts 3 to 8 of a device's program and its tail. Each part takes the padded buffer's rows that have arrived,
  at what the taps read there, and leaves the chunks of the result at `outAt`.
-/
module

public import proofs.«01_k».proof.Proof.Body

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 4 → ℕ) (c : Dev nD)

/-- The window of the padded buffer from row `o`. -/
abbrev wn (o : Nat) (h : o + 1024 ≤ 4104) : FVec F S2x1024x1024 .f32 := win (paddedAt m c) o h
/-- A chunk of the result. -/
abbrev outC (o : Nat) (h : o + 1024 ≤ 4096) : FVec F S2x1024x1024 .f32 := xwin (outAt m c) o h

/-- The chunk of the result from row `o` is computed from four windows. -/
theorem chunk_out (o o3 o0 o1 o2 : Nat) (h : o + 1024 ≤ 4096) (e3 : o3 = o + 8) (e0 : o0 = o + 5) (e1 : o1 = o + 6) (e2 : o2 = o + 7)
    (h3 : o3 + 1024 ≤ 4104) (h0 : o0 + 1024 ≤ 4104) (h1 : o1 + 1024 ≤ 4104) (h2 : o2 + 1024 ≤ 4104) :
    chunk (ks m c) (wn m c o3 h3) (wn m c o0 h0) (wn m c o1 h1) (wn m c o2 h2) = outC m c o h :=
  chunk_win (ks m c) (paddedAt m c) o o3 o0 o1 o2 h e3 e0 e1 e2 h3 h0 h1 h2

set_option maxHeartbeats 800000 in
theorem part3 (Q : (Σ' (_ : FVec F S4x1024 .f32) (_ : FVec F S2x1024x1024 .f32) (_ : FVec F S2x1024x1024 .f32), F .f32) → sProp 𝕄) :
    iprop(levAts L lv ∗ (kPts m c ∗ pad m c 5 8 ∗ flyIn m c in0 8 ∗ ow c (OX c))
        ∗ ((kPts m c ∗ pad m c 5 1032 ∗ sv0 c (.dma in0) ∗ ow c (OX c))
          -∗ Q ⟨k0_pay2 (ks m c), k0_pay3 (ks m c) (wn m c 8 (by decide)) (wn m c 5 (by decide)) (wn m c 6 (by decide)) (wn m c 7 (by decide)),
              k0_pay4 (ks m c) (wn m c 8 (by decide)) (wn m c 5 (by decide)) (wn m c 6 (by decide)) (wn m c 7 (by decide)), Scalar.ofBits .f32 0x3F800000#32⟩))
      ⊢ wp frame (wpE (defs₀ (F := F)) 𝒱₀ (c : Thread nD τ) none) Set.univ
          (k0_part3 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0) Q := by
  rw [k0_part3_eq_skeleton]; unfold k0_part3_skel
  simp only [Prog.lift, Prog.bind_op, Prog.bind_ret, Prog.pure_eq_ret]
  iintro ⟨#Hlev, ⟨HK, Hp, Hf, ⟨%W, HO⟩⟩, Hk⟩
  iapply (step_load_k c inb_S4x1024_S4x1024_0_0 (ks m c)) $$ HK; iintro HK
  -- chunk 0 is in
  iapply (step_wait_in m c 8 in0 rfl (OX c) W) $$ [Hf HO]
  · isplitl [Hf]; · iexact Hf
    isplitl [HO]; · iexact HO
    iapply (mayWaitX c in0); iexact Hlev
  iintro ⟨Hn, Hi, HO⟩
  ihave Hp := (pad_join m c 5 8 1032 (by omega) (by omega)) $$ [Hp Hn]
  · isplitl [Hp] <;> iassumption
  iapply (step_load_p c 8 inb_S2x4104x1024_S2x1024x1024_0_8_0 (rows_subset (by omega) (by omega)) (paddedAt m c)) $$ Hp; iintro Hp
  iapply (step_load_p c 5 inb_S2x4104x1024_S2x1024x1024_0_5_0 (rows_subset (by omega) (by omega)) (paddedAt m c)) $$ Hp; iintro Hp
  iapply (step_load_p c 6 inb_S2x4104x1024_S2x1024x1024_0_6_0 (rows_subset (by omega) (by omega)) (paddedAt m c)) $$ Hp; iintro Hp
  iapply (step_load_p c 7 inb_S2x4104x1024_S2x1024x1024_0_7_0 (rows_subset (by omega) (by omega)) (paddedAt m c)) $$ Hp; iintro Hp
  rw [wp_ret]; imodintro
  iapply Hk
  isplitl [HK]; · iexact HK
  isplitl [Hp]; · iexact Hp
  isplitl [Hi]; · iexact Hi
  iexists _; iexact HO

set_option maxHeartbeats 800000 in
theorem part4 (v42 : FVec F S4x1024 .f32) (v73 v76 : FVec F S2x1024x1024 .f32) (cst : F .f32) (v : FVec F S2x1024x1024 .f32)
    (hw : k0_pay5 v73 v76 cst = stored v) (hv : v = outC m c 0 (by decide))
    (Q : (Σ' (_ : FVec F S2x1024x1024 .f32), Vec F S2x1024x1024 .f32) → sProp 𝕄) :
    iprop(levAts L lv ∗ (slotAny c 0 ∗ outAny c 0 1024 ∗ sv0 c (.dma out0) ∗ pad m c 5 1032 ∗ flyIn m c in1 1032 ∗ ow c (OX c))
        ∗ ((flyOut m c out0 0 0 ∗ pad m c 5 2056 ∗ sv0 c (.dma in1) ∗ ow c (OX c))
          -∗ Q ⟨k0_pay6 v42 (wn m c 1032 (by decide)) (wn m c 1029 (by decide)), (wn m c 1030 (by decide))⟩))
      ⊢ wp frame (wpE (defs₀ (F := F)) 𝒱₀ (c : Thread nD τ) none) Set.univ
          (k0_part4 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v42 v73 v76 cst) Q := by
  rw [k0_part4_eq_skeleton]; unfold k0_part4_skel
  simp only [Prog.lift, Prog.bind_op, Prog.bind_ret, Prog.pure_eq_ret]
  iintro ⟨#Hlev, ⟨⟨%fb, Hb⟩, ⟨%fo, Ho⟩, Hv, Hp, Hf, ⟨%W, HO⟩⟩, Hk⟩
  -- the chunk into slot 0, and out to its rows of the result
  iapply (step_slot c 0 inb_S2x2x1024x1024_S1x2x1024x1024_0_0_0_0 v _ hw fb) $$ Hb; iintro Hb
  iapply (step_start_out m c 0 0 inb_S2x2x1024x1024_S1x2x1024x1024_0_0_0_0 inb_S2x4096x1024_S2x1024x1024_0_0_0 out0 v hv fo) $$ [Hb Ho Hv]
  · isplitl [Hb]; · iexact Hb
    isplitl [Ho]; · iexact Ho
    iexact Hv
  iintro Hg
  -- chunk 1 is in
  iapply (step_wait_in m c 1032 in1 rfl (OX c) W) $$ [Hf HO]
  · isplitl [Hf]; · iexact Hf
    isplitl [HO]; · iexact HO
    iapply (mayWaitX c in1); iexact Hlev
  iintro ⟨Hn, Hi, HO⟩
  ihave Hp := (pad_join m c 5 1032 2056 (by omega) (by omega)) $$ [Hp Hn]
  · isplitl [Hp] <;> iassumption
  iapply (step_load_p c 1032 inb_S2x4104x1024_S2x1024x1024_0_1032_0 (rows_subset (by omega) (by omega)) (paddedAt m c)) $$ Hp; iintro Hp
  iapply (step_load_p c 1029 inb_S2x4104x1024_S2x1024x1024_0_1029_0 (rows_subset (by omega) (by omega)) (paddedAt m c)) $$ Hp; iintro Hp
  iapply (step_load_p c 1030 inb_S2x4104x1024_S2x1024x1024_0_1030_0 (rows_subset (by omega) (by omega)) (paddedAt m c)) $$ Hp; iintro Hp
  rw [wp_ret]; imodintro
  iapply Hk
  isplitl [Hg]; · iexact Hg
  isplitl [Hp]; · iexact Hp
  isplitl [Hi]; · iexact Hi
  iexists _; iexact HO

set_option maxHeartbeats 800000 in
theorem part5 (v42 : FVec F S4x1024 .f32) (v104 : FVec F S2x1024x1024 .f32) (v105 : Vec F S2x1024x1024 .f32) (v : FVec F S2x1024x1024 .f32)
    (hw : k0_pay7 v42 v104 v105 (wn m c 1031 (by decide)) = stored v) (hv : v = outC m c 1024 (by decide)) (Q : PUnit → sProp 𝕄) :
    iprop(levAts L lv ∗ (slotAny c 1 ∗ outAny c 1024 2048 ∗ sv0 c (.dma out1) ∗ pad m c 5 2056 ∗ flyIn m c in2 2056 ∗ ow c (OX c))
        ∗ ((flyOut m c out1 1 1024 ∗ pad m c 5 3080 ∗ sv0 c (.dma in2) ∗ ow c (OX c)) -∗ Q ⟨⟩))
      ⊢ wp frame (wpE (defs₀ (F := F)) 𝒱₀ (c : Thread nD τ) none) Set.univ
          (k0_part5 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v42 v104 v105) Q := by
  rw [k0_part5_eq_skeleton]; unfold k0_part5_skel
  simp only [Prog.lift, Prog.bind_op, Prog.bind_ret, Prog.pure_eq_ret]
  iintro ⟨#Hlev, ⟨⟨%fb, Hb⟩, ⟨%fo, Ho⟩, Hv, Hp, Hf, ⟨%W, HO⟩⟩, Hk⟩
  iapply (step_load_p c 1031 inb_S2x4104x1024_S2x1024x1024_0_1031_0 (rows_subset (by omega) (by omega)) (paddedAt m c)) $$ Hp; iintro Hp
  -- the chunk into slot 1, and out to its rows of the result
  iapply (step_slot c 1 inb_S2x2x1024x1024_S1x2x1024x1024_1_0_0_0 v _ hw fb) $$ Hb; iintro Hb
  iapply (step_start_out m c 1 1024 inb_S2x2x1024x1024_S1x2x1024x1024_1_0_0_0 inb_S2x4096x1024_S2x1024x1024_0_1024_0 out1 v hv fo) $$ [Hb Ho Hv]
  · isplitl [Hb]; · iexact Hb
    isplitl [Ho]; · iexact Ho
    iexact Hv
  iintro Hg
  -- chunk 2 is in
  iapply (step_wait_in m c 2056 in2 rfl (OX c) W) $$ [Hf HO]
  · isplitl [Hf]; · iexact Hf
    isplitl [HO]; · iexact HO
    iapply (mayWaitX c in2); iexact Hlev
  iintro ⟨Hn, Hi, HO⟩
  ihave Hp := (pad_join m c 5 2056 3080 (by omega) (by omega)) $$ [Hp Hn]
  · isplitl [Hp] <;> iassumption
  rw [wp_ret]; imodintro
  iapply Hk
  isplitl [Hg]; · iexact Hg
  isplitl [Hp]; · iexact Hp
  isplitl [Hi]; · iexact Hi
  iexists _; iexact HO

set_option maxHeartbeats 800000 in
theorem part6 (v42 : FVec F S4x1024 .f32) (Q : FVec F S2x1024x1024 .f32 → sProp 𝕄) :
    iprop(levAts L lv ∗ (flyOut m c out0 0 0 ∗ pad m c 5 3080 ∗ ow c (OX c))
        ∗ ((oPts c (rows 4096 0 1024) (outAt m c) ∗ slotAny c 0 ∗ sv0 c (.dma out0) ∗ pad m c 5 3080 ∗ ow c (OX c))
          -∗ Q (k0_pay8 v42 (wn m c 2056 (by decide)) (wn m c 2053 (by decide)) (wn m c 2054 (by decide)) (wn m c 2055 (by decide)))))
      ⊢ wp frame (wpE (defs₀ (F := F)) 𝒱₀ (c : Thread nD τ) none) Set.univ
          (k0_part6 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v42) Q := by
  rw [k0_part6_eq_skeleton]; unfold k0_part6_skel
  simp only [Prog.lift, Prog.bind_op, Prog.bind_ret, Prog.pure_eq_ret]
  iintro ⟨#Hlev, ⟨Hg, Hp, ⟨%W, HO⟩⟩, Hk⟩
  -- the copy out of slot 0 has landed
  iapply (step_wait_out m c 0 0 out0 rfl (OX c) W) $$ [Hg HO]
  · isplitl [Hg]; · iexact Hg
    isplitl [HO]; · iexact HO
    iapply (mayWaitX c out0); iexact Hlev
  iintro ⟨⟨Ho, Hb⟩, Hv, HO⟩
  iapply (step_load_p c 2056 inb_S2x4104x1024_S2x1024x1024_0_2056_0 (rows_subset (by omega) (by omega)) (paddedAt m c)) $$ Hp; iintro Hp
  iapply (step_load_p c 2053 inb_S2x4104x1024_S2x1024x1024_0_2053_0 (rows_subset (by omega) (by omega)) (paddedAt m c)) $$ Hp; iintro Hp
  iapply (step_load_p c 2054 inb_S2x4104x1024_S2x1024x1024_0_2054_0 (rows_subset (by omega) (by omega)) (paddedAt m c)) $$ Hp; iintro Hp
  iapply (step_load_p c 2055 inb_S2x4104x1024_S2x1024x1024_0_2055_0 (rows_subset (by omega) (by omega)) (paddedAt m c)) $$ Hp; iintro Hp
  rw [wp_ret]; imodintro
  iapply Hk
  isplitl [Ho]; · iexact Ho
  isplitl [Hb]; · iexact Hb
  isplitl [Hv]; · iexact Hv
  isplitl [Hp]; · iexact Hp
  iexists _; iexact HO

set_option maxHeartbeats 800000 in
theorem part7 (v42 : FVec F S4x1024 .f32) (v174 v : FVec F S2x1024x1024 .f32)
    (hw : k0_pay9 v174 = stored v) (hv : v = outC m c 2048 (by decide))
    (Q : (Σ' (_ : FVec F S2x1024x1024 .f32), Vec F S2x1024x1024 .f32) → sProp 𝕄) :
    iprop(levAts L lv ∗ (slotAny c 0 ∗ outAny c 2048 3072 ∗ sv0 c (.dma out0) ∗ pad m c 5 3080 ∗ flyIn m c in3 3080
          ∗ flyOut m c out1 1 1024 ∗ ow c (OX c))
        ∗ ((flyOut m c out0 0 2048 ∗ pad m c 5 4104 ∗ sv0 c (.dma in3) ∗ oPts c (rows 4096 1024 2048) (outAt m c) ∗ slotAny c 1
            ∗ sv0 c (.dma out1) ∗ ow c (OX c))
          -∗ Q ⟨k0_pay10 v42 (wn m c 3080 (by decide)), (wn m c 3077 (by decide))⟩))
      ⊢ wp frame (wpE (defs₀ (F := F)) 𝒱₀ (c : Thread nD τ) none) Set.univ
          (k0_part7 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v42 v174) Q := by
  rw [k0_part7_eq_skeleton]; unfold k0_part7_skel
  simp only [Prog.lift, Prog.bind_op, Prog.bind_ret, Prog.pure_eq_ret]
  iintro ⟨#Hlev, ⟨⟨%fb, Hb⟩, ⟨%fo, Ho⟩, Hv, Hp, Hf, Hg1, ⟨%W, HO⟩⟩, Hk⟩
  -- the chunk into slot 0, and out to its rows of the result
  iapply (step_slot c 0 inb_S2x2x1024x1024_S1x2x1024x1024_0_0_0_0 v _ hw fb) $$ Hb; iintro Hb
  iapply (step_start_out m c 0 2048 inb_S2x2x1024x1024_S1x2x1024x1024_0_0_0_0 inb_S2x4096x1024_S2x1024x1024_0_2048_0 out0 v hv fo) $$ [Hb Ho Hv]
  · isplitl [Hb]; · iexact Hb
    isplitl [Ho]; · iexact Ho
    iexact Hv
  iintro Hg
  -- chunk 3 is in
  iapply (step_wait_in m c 3080 in3 rfl (OX c) W) $$ [Hf HO]
  · isplitl [Hf]; · iexact Hf
    isplitl [HO]; · iexact HO
    iapply (mayWaitX c in3); iexact Hlev
  iintro ⟨Hn, Hi, HO⟩
  ihave Hp := (pad_join m c 5 3080 4104 (by omega) (by omega)) $$ [Hp Hn]
  · isplitl [Hp] <;> iassumption
  -- the copy out of slot 1 has landed
  iapply (step_wait_out m c 1 1024 out1 rfl (OX c) _) $$ [Hg1 HO]
  · isplitl [Hg1]; · iexact Hg1
    isplitl [HO]; · iexact HO
    iapply (mayWaitX c out1); iexact Hlev
  iintro ⟨⟨Ho1, Hb1⟩, Hv1, HO⟩
  iapply (step_load_p c 3080 inb_S2x4104x1024_S2x1024x1024_0_3080_0 (rows_subset (by omega) (by omega)) (paddedAt m c)) $$ Hp; iintro Hp
  iapply (step_load_p c 3077 inb_S2x4104x1024_S2x1024x1024_0_3077_0 (rows_subset (by omega) (by omega)) (paddedAt m c)) $$ Hp; iintro Hp
  rw [wp_ret]; imodintro
  iapply Hk
  isplitl [Hg]; · iexact Hg
  isplitl [Hp]; · iexact Hp
  isplitl [Hi]; · iexact Hi
  isplitl [Ho1]; · iexact Ho1
  isplitl [Hb1]; · iexact Hb1
  isplitl [Hv1]; · iexact Hv1
  iexists _; iexact HO

set_option maxHeartbeats 800000 in
theorem part8 (v42 : FVec F S4x1024 .f32) (v197 : FVec F S2x1024x1024 .f32) (v198 : Vec F S2x1024x1024 .f32) (v : FVec F S2x1024x1024 .f32)
    (hw : k0_pay11 v42 v197 v198 (wn m c 3078 (by decide)) (wn m c 3079 (by decide)) = stored v) (hv : v = outC m c 3072 (by decide)) (Q : PUnit → sProp 𝕄) :
    iprop((slotAny c 1 ∗ outAny c 3072 4096 ∗ sv0 c (.dma out1) ∗ pad m c 5 4104)
        ∗ ((flyOut m c out1 1 3072 ∗ pad m c 5 4104) -∗ Q ⟨⟩))
      ⊢ wp frame (wpE (defs₀ (F := F)) 𝒱₀ (c : Thread nD τ) none) Set.univ
          (k0_part8 (F := F) xM (Memref.isWhole_whole _) kM (Memref.isWhole_whole _) oM (Memref.isWhole_whole _) pM (Memref.isWhole_whole _)
            bM (Memref.isWhole_whole _) cc0_scratch2 cc0_scratch3 cc0_scratch4 cc0_scratch5 cc0_scoped0 v42 v197 v198) Q := by
  rw [k0_part8_eq_skeleton]; unfold k0_part8_skel
  simp only [Prog.lift, Prog.bind_op, Prog.bind_ret, Prog.pure_eq_ret]
  iintro ⟨⟨⟨%fb, Hb⟩, ⟨%fo, Ho⟩, Hv, Hp⟩, Hk⟩
  iapply (step_load_p c 3078 inb_S2x4104x1024_S2x1024x1024_0_3078_0 (rows_subset (by omega) (by omega)) (paddedAt m c)) $$ Hp; iintro Hp
  iapply (step_load_p c 3079 inb_S2x4104x1024_S2x1024x1024_0_3079_0 (rows_subset (by omega) (by omega)) (paddedAt m c)) $$ Hp; iintro Hp
  -- the chunk into slot 1, and out to its rows of the result
  iapply (step_slot c 1 inb_S2x2x1024x1024_S1x2x1024x1024_1_0_0_0 v _ hw fb) $$ Hb; iintro Hb
  iapply (step_start_out m c 1 3072 inb_S2x2x1024x1024_S1x2x1024x1024_1_0_0_0 inb_S2x4096x1024_S2x1024x1024_0_3072_0 out1 v hv fo) $$ [Hb Ho Hv]
  · isplitl [Hb]; · iexact Hb
    isplitl [Ho]; · iexact Ho
    iexact Hv
  iintro Hg
  rw [wp_ret]; imodintro
  iapply Hk
  isplitl [Hg]; · iexact Hg
  iexact Hp

end Cert.KernelIdeal.Conv

end
-- ==== Proof.Whole.lean ====
/-
  THE WHOLE PROGRAM of a device: its buffers cut into the pieces the parts take, the parts in order, the tail, and the
  pieces joined again.
-/
module

public import proofs.«01_k».proof.Proof.Chunks

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 4 → ℕ) (c : Dev nD)

/-! ## The pieces -/

omit [FloatOps F] in
/-- The padded buffer in the pieces the program holds it in. -/
theorem padded_pieces : (iprop(∃ f, pPts c Finset.univ f) : sProp 𝕄)
    ⊢ iprop(padAny c 0 5 ∗ padAny c 5 8 ∗ padAny c 8 1032 ∗ padAny c 1032 2056 ∗ padAny c 2056 3080 ∗ padAny c 3080 4104) := by
  have cut (a b d : Nat) (h : a ≤ b) (h' : b ≤ d) (f : S2x4104x1024.Idx → F .f32) :
      (pPts c (rows 4104 a d) f : sProp 𝕄) ⊢ iprop(pPts c (rows 4104 a b) f ∗ pPts c (rows 4104 b d) f) := by
    rw [← rows_union h h']; exact (pointsTo_union rows_disjoint).1
  have hu : (Finset.univ : Finset S2x4104x1024.Idx) = rows 4104 0 4104 := rows_univ.symm
  rw [hu]
  iintro ⟨%f, H⟩
  ihave H := (cut 0 5 4104 (by omega) (by omega) f) $$ H
  icases H with ⟨H0, H⟩
  ihave H := (cut 5 8 4104 (by omega) (by omega) f) $$ H
  icases H with ⟨H1, H⟩
  ihave H := (cut 8 1032 4104 (by omega) (by omega) f) $$ H
  icases H with ⟨H2, H⟩
  ihave H := (cut 1032 2056 4104 (by omega) (by omega) f) $$ H
  icases H with ⟨H3, H⟩
  ihave H := (cut 2056 3080 4104 (by omega) (by omega) f) $$ H
  icases H with ⟨H4, H⟩
  isplitl [H0]; · iexists f; iexact H0
  isplitl [H1]; · iexists f; iexact H1
  isplitl [H2]; · iexists f; iexact H2
  isplitl [H3]; · iexists f; iexact H3
  isplitl [H4]; · iexists f; iexact H4
  iexists f; iexact H

/-- The padded buffer whole again. -/
theorem padded_whole : iprop(padAny c 0 5 ∗ pad m c 5 4104) ⊢ (iprop(∃ f, pPts c Finset.univ f) : sProp 𝕄) := by
  have hu : (Finset.univ : Finset S2x4104x1024.Idx) = rows 4104 0 5 ∪ rows 4104 5 4104 := by
    rw [rows_union (by omega) (by omega)]; exact rows_univ.symm
  iintro ⟨⟨%f, H0⟩, H1⟩
  iexists ((rows 4104 5 4104).piecewise (paddedAt m c) f)
  rw [hu]
  iapply (pointsTo_join rows_disjoint)
  isplitl [H0] <;> iassumption

omit [FloatOps F] in
/-- The output buffer's two slots, apart and together. -/
theorem slots_pieces : (iprop(∃ f, bPts c Finset.univ f) : sProp 𝕄) ⊢ iprop(slotAny c 0 ∗ slotAny c 1) := by
  rw [← slot_union]
  iintro ⟨%f, H⟩
  ihave H := (pointsTo_union slot_disjoint).1 $$ H
  icases H with ⟨H0, H1⟩
  isplitl [H0]
  · iexists f; iexact H0
  · iexists f; iexact H1
omit [FloatOps F] in
theorem slots_whole : iprop(slotAny c 0 ∗ slotAny c 1) ⊢ (iprop(∃ f, bPts c Finset.univ f) : sProp 𝕄) := by
  iintro ⟨⟨%f, H0⟩, ⟨%g, H1⟩⟩
  iexists ((slot 1).piecewise g f)
  rw [← slot_union]
  iapply (pointsTo_join slot_disjoint)
  isplitl [H0] <;> iassumption

omit [FloatOps F] in
/-- The result's four chunks. -/
theorem result_pieces : (iprop(∃ f, oPts c Finset.univ f) : sProp 𝕄)
    ⊢ iprop(outAny c 0 1024 ∗ outAny c 1024 2048 ∗ outAny c 2048 3072 ∗ outAny c 3072 4096) := by
  have cut (a b d : Nat) (h : a ≤ b) (h' : b ≤ d) (f : S2x4096x1024.Idx → F .f32) :
      (oPts c (rows 4096 a d) f : sProp 𝕄) ⊢ iprop(oPts c (rows 4096 a b) f ∗ oPts c (rows 4096 b d) f) := by
    rw [← rows_union h h']; exact (pointsTo_union rows_disjoint).1
  have hu : (Finset.univ : Finset S2x4096x1024.Idx) = rows 4096 0 4096 := rows_univ.symm
  rw [hu]
  iintro ⟨%f, H⟩
  ihave H := (cut 0 1024 4096 (by omega) (by omega) f) $$ H
  icases H with ⟨H0, H⟩
  ihave H := (cut 1024 2048 4096 (by omega) (by omega) f) $$ H
  icases H with ⟨H1, H⟩
  ihave H := (cut 2048 3072 4096 (by omega) (by omega) f) $$ H
  icases H with ⟨H2, H⟩
  isplitl [H0]; · iexists f; iexact H0
  isplitl [H1]; · iexists f; iexact H1
  isplitl [H2]; · iexists f; iexact H2
  iexists f; iexact H

omit [FloatOps F] in
theorem result_whole (f : S2x4096x1024.Idx → F .f32) :
    iprop(oPts c (rows 4096 0 1024) f ∗ oPts c (rows 4096 1024 2048) f ∗ oPts c (rows 4096 2048 3072) f ∗ oPts c (rows 4096 3072 4096) f)
      ⊢ (oPts c Finset.univ f : sProp 𝕄) := by
  have glue (a b d : Nat) (h : a ≤ b) (h' : b ≤ d) :
      iprop(oPts c (rows 4096 a b) f ∗ oPts c (rows 4096 b d) f) ⊢ (oPts c (rows 4096 a d) f : sProp 𝕄) := by
    rw [← rows_union h h']; exact (pointsTo_union rows_disjoint).2
  have hu : (Finset.univ : Finset S2x4096x1024.Idx) = rows 4096 0 4096 := rows_univ.symm
  rw [hu]
  iintro ⟨H0, H1, H2, H3⟩
  iapply (glue 0 1024 4096 (by omega) (by omega))
  isplitl [H0]; · iexact H0
  iapply (glue 1024 2048 4096 (by omega) (by omega))
  isplitl [H1]; · iexact H1
  iapply (glue 2048 3072 4096 (by omega) (by omega))
  isplitl [H2] <;> iassumption

/-- The share of `x` a device keeps, and the five its copies read through. -/
abbrev xq : PosShare TreeShare := Transfers.shareDrop fullShare 5
abbrev xt (i : Fin 5) : PosShare TreeShare := Transfers.shareTok fullShare 5 i

omit [FloatOps F] in
theorem x_pieces : xPts m c fullShare Finset.univ
    ⊢ iprop(xPts m c xq Finset.univ ∗ xPts m c (xt 0) (rows 4096 4093 4096) ∗ xPts m c (xt 1) (rows 4096 0 1024)
        ∗ xPts m c (xt 2) (rows 4096 1024 2048) ∗ xPts m c (xt 3) (rows 4096 2048 3072) ∗ xPts m c (xt 4) (rows 4096 3072 4096)) := by
  have part (q : PosShare TreeShare) (S : Finset S2x4096x1024.Idx) : xPts m c q Finset.univ ⊢ xPts m c q S :=
    (pointsTo_split_subset (Finset.subset_univ S)).1.trans sep_elim_left
  have h5 (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  refine (Transfers.pointsTo_toks_split fullShare 5).trans ?_
  rw [h5]
  exact BI.sep_mono (Entails.refl _) (BI.sep_mono (part _ _) (BI.sep_mono (part _ _) (BI.sep_mono (part _ _)
    (BI.sep_mono (part _ _) (part _ _)))))

/-! ## The program -/

/-- What device `c`'s program starts from. -/
def devPre : sProp 𝕄 :=
  iprop((ghost m K c ∗ levAts L lv ∗ cred (tallyAt (barCell c) () 2) ∗ cred (tallyAt (recvCell c) () N) ∗ cred (tallyAt (exitCell c) () 2))
    ∗ (sv0 c (.dma in0) ∗ sv0 c (.dma in1) ∗ sv0 c (.dma in2) ∗ sv0 c (.dma in3) ∗ sv0 c (.dma out0) ∗ sv0 c (.dma out1))
    ∗ ((∃ f, pPts c Finset.univ f) ∗ (∃ f, bPts c Finset.univ f) ∗ xPts m c fullShare Finset.univ ∗ ∃ f, oPts c Finset.univ f)
    ∗ kPts m c ∗ ow c (O₀ c))

/-- What it leaves but for its staging buffer: its result at `outAt`, its rows of `x` as they were, its semaphores at
    zero. -/
def devRest : sProp 𝕄 :=
  iprop((sv0 c (.reg exitS) ∗ sv0 c (.dma in0) ∗ sv0 c (.dma in1) ∗ sv0 c (.dma in2) ∗ sv0 c (.dma in3)
      ∗ sv0 c (.dma out0) ∗ sv0 c (.dma out1) ∗ sv0 c (.dma sendS) ∗ sv0 c (.dma recvS))
    ∗ sv0 c (.reg barS)
    ∗ ((∃ f, pPts c Finset.univ f) ∗ (∃ f, bPts c Finset.univ f))
    ∗ xPts m c xq Finset.univ ∗ oPts c Finset.univ (outAt m c))
def devPost : sProp 𝕄 := iprop(devRest m c ∗ kPts m c ∗ ow c 0)

/-- The program of a device, on its buffers. -/
abbrev prog : Prog (TpuEff nD τ sig (Elt F) Λ₀ .tc) PUnit :=
  cc0_body (F := F) xM (Memref.isWhole_whole _) kM (Memref.isWhole_whole _) oM (Memref.isWhole_whole _) pM (Memref.isWhole_whole _)
    bM (Memref.isWhole_whole _) cc0_scratch2 cc0_scratch3 cc0_scratch4 cc0_scratch5 cc0_scoped0

set_option maxHeartbeats 1600000 in
theorem sound_prog (Kt : PUnit → sProp 𝕄) :
    iprop(devPre m K c ∗ (devPost m c -∗ Kt ⟨⟩))
      ⊢ wp frame (wpE (defs₀ (F := F)) 𝒱₀ (c : Thread nD τ) none) Set.univ (prog (F := F)) Kt := by
  unfold prog
  rw [cc0_body_eq_skeleton]; unfold cc0_body_skel
  unfold devPre ghost positions payToks
  iintro ⟨⟨⟨⟨#HI, #Hm, ⟨HatB, HatS, HatR, HatX⟩, HtBN, HtBP, HtRN, HtS, HtXN, HtXP⟩, #Hlev, HcB, HcR, HcX⟩,
    ⟨Hi0, Hi1, Hi2, Hi3, Hu0, Hu1⟩, ⟨Hp, Hb, Hx, Ho⟩, HK, HO⟩, Hk⟩
  ihave Hp := (padded_pieces c) $$ Hp
  icases Hp with ⟨Hp0, Hph, Hp1, Hp2, Hp3, Hp4⟩
  ihave Hb := (slots_pieces c) $$ Hb
  icases Hb with ⟨Hb0, Hb1⟩
  ihave Hx := (x_pieces m c) $$ Hx
  icases Hx with ⟨Hx, Hxl, Hx0, Hx1, Hx2, Hx3⟩
  ihave Ho := (result_pieces c) $$ Ho
  icases Ho with ⟨Ho0, Ho1, Ho2, Ho3⟩
  rw [wp_bind]
  iapply (part1 m K c (xt 0) (xt 1))
  isplitr; · (isplitr; · iexact HI); (isplitr; · iexact Hm); iexact Hlev
  isplitl [HatB HtBN HtBP HtRN HtS HcB HO]
  · isplitl [HatB]; · iexact HatB
    isplitl [HtBN]; · iexact HtBN
    isplitl [HtBP]; · iexact HtBP
    isplitl [HtRN]; · iexact HtRN
    isplitl [HtS]; · iexact HtS
    isplitl [HcB]; · iexact HcB
    iexact HO
  isplitl [Hph Hp1 Hxl Hx0 Hi0]
  · isplitl [Hph]; · iexact Hph
    isplitl [Hp1]; · iexact Hp1
    isplitl [Hxl]; · iexact Hxl
    isplitl [Hx0]; · iexact Hx0
    iexact Hi0
  iintro ⟨HatB, HcS, HO, Hf0⟩
  rw [wp_bind]
  iapply (part2 m K c _ _ (first_iff c) (xt 2) (xt 3) (xt 4))
  isplitr; · (isplitr; · iexact HI); iexact Hlev
  isplitl [HatS HatR HcS HcR HO]
  · isplitl [HatS]; · iexact HatS
    isplitl [HatR]; · iexact HatR
    isplitl [HcS]; · iexact HcS
    isplitl [HcR]; · iexact HcR
    iexact HO
  isplitl [Hp2 Hx1 Hi1]
  · isplitl [Hp2]; · iexact Hp2
    isplitl [Hx1] <;> iassumption
  isplitl [Hp3 Hx2 Hi2]
  · isplitl [Hp3]; · iexact Hp3
    isplitl [Hx2] <;> iassumption
  isplitl [Hp4 Hx3 Hi3]
  · isplitl [Hp4]; · iexact Hp4
    isplitl [Hx3] <;> iassumption
  iintro ⟨HatS, HatR, HO, Hp, Hf1, Hf2, Hf3⟩
  rw [wp_bind]
  iapply (part3 m c)
  isplitr; · iexact Hlev
  isplitl [HK Hp Hf0 HO]
  · isplitl [HK]; · iexact HK
    isplitl [Hp]; · iexact Hp
    isplitl [Hf0] <;> iassumption
  iintro ⟨HK, Hp, Hi0, HO⟩
  rw [wp_bind]
  iapply (part4 m c _ _ _ _ (outC m c 0 (by decide))
    (by rw [← chunk_out m c 0 8 5 6 7 (by decide) rfl rfl rfl rfl (by decide) (by decide) (by decide) (by decide)]; exact pay5_eq _ _ _ _ _) rfl)
  isplitr; · iexact Hlev
  isplitl [Hb0 Ho0 Hu0 Hp Hf1 HO]
  · isplitl [Hb0]; · iexact Hb0
    isplitl [Ho0]; · iexact Ho0
    isplitl [Hu0]; · iexact Hu0
    isplitl [Hp]; · iexact Hp
    isplitl [Hf1] <;> iassumption
  iintro ⟨Hg0, Hp, Hi1, HO⟩
  rw [wp_bind]
  iapply (part5 m c _ _ _ (outC m c 1024 (by decide))
    (by rw [← chunk_out m c 1024 1032 1029 1030 1031 (by decide) rfl rfl rfl rfl (by decide) (by decide) (by decide) (by decide), pay2_eq]
        exact pay7_eq _ _ _ _ _) rfl)
  isplitr; · iexact Hlev
  isplitl [Hb1 Ho1 Hu1 Hp Hf2 HO]
  · isplitl [Hb1]; · iexact Hb1
    isplitl [Ho1]; · iexact Ho1
    isplitl [Hu1]; · iexact Hu1
    isplitl [Hp]; · iexact Hp
    isplitl [Hf2] <;> iassumption
  iintro ⟨Hg1, Hp, Hi2, HO⟩
  rw [wp_bind]
  iapply (part6 m c)
  isplitr; · iexact Hlev
  isplitl [Hg0 Hp HO]
  · isplitl [Hg0]; · iexact Hg0
    isplitl [Hp] <;> iassumption
  iintro ⟨Ho0, Hb0, Hu0, Hp, HO⟩
  rw [wp_bind]
  iapply (part7 m c _ _ (outC m c 2048 (by decide))
    (by rw [← chunk_out m c 2048 2056 2053 2054 2055 (by decide) rfl rfl rfl rfl (by decide) (by decide) (by decide) (by decide), pay2_eq]
        exact pay9_eq _ _ _ _ _) rfl)
  isplitr; · iexact Hlev
  isplitl [Hb0 Ho2 Hu0 Hp Hf3 Hg1 HO]
  · isplitl [Hb0]; · iexact Hb0
    isplitl [Ho2]; · iexact Ho2
    isplitl [Hu0]; · iexact Hu0
    isplitl [Hp]; · iexact Hp
    isplitl [Hf3]; · iexact Hf3
    isplitl [Hg1] <;> iassumption
  iintro ⟨Hg0, Hp, Hi3, Ho1, Hb1, Hu1, HO⟩
  rw [wp_bind]
  iapply (part8 m c _ _ _ (outC m c 3072 (by decide))
    (by rw [← chunk_out m c 3072 3080 3077 3078 3079 (by decide) rfl rfl rfl rfl (by decide) (by decide) (by decide) (by decide), pay2_eq]
        exact pay11_eq _ _ _ _ _) rfl)
  isplitl [Hb1 Ho3 Hu1 Hp]
  · isplitl [Hb1]; · iexact Hb1
    isplitl [Ho3]; · iexact Ho3
    isplitl [Hu1] <;> iassumption
  iintro ⟨Hg1, Hp⟩
  -- the last two copies out
  simp only [semSignalWord, semWaitWord, Prog.lift, Prog.bind_op, Prog.bind_ret, Prog.pure_eq_ret]
  simp only [dev4_eq c, dev5_eq c]
  icases HO with ⟨%W, HO⟩
  iapply (step_wait_out m c 0 2048 out0 rfl (OX c) W) $$ [Hg0 HO]
  · isplitl [Hg0]; · iexact Hg0
    isplitl [HO]; · iexact HO
    iapply (mayWaitX c out0); iexact Hlev
  iintro ⟨⟨Ho2, Hb0⟩, Hu0, HO⟩
  iapply (step_wait_out m c 1 3072 out1 rfl (OX c) _) $$ [Hg1 HO]
  · isplitl [Hg1]; · iexact Hg1
    isplitl [HO]; · iexact HO
    iapply (mayWaitX c out1); iexact Hlev
  iintro ⟨⟨Ho3, Hb1⟩, Hu1, HO⟩
  unfold invs marks
  icases HI with ⟨#HIb, #HIs, #HIr, #HIx, -, -, -, #HIxN, #HIxP⟩
  icases Hm with ⟨-, -, -, -, #HmXN, #HmXP⟩
  -- the exit: a signal to each neighbour, and the wait for theirs
  iapply (Rounds.wp_signal 𝒱₀ ER (ringRd m) (c : Thread nD τ) none (dst := (prv c : Thread nD τ)) (κ := K (prv c, 3))
      (d := true) (by rw [duties_exit]; exact Finset.mem_univ _) ((amount_exit m (prv c) true).trans (by decide)) () (tallyAt (exitCell (nxt c)) () 1) rfl)
    $$ [HO HtXP]
  · isplitr; · iexact HIxP
    isplitl [HO]; · iexact HO
    isplitl [HtXP]; · iexact HtXP
    isplitr; · rw [payload_exit]; iempintro
    iexact HmXP
  iintro HO
  iapply (Rounds.wp_signal 𝒱₀ ER (ringRd m) (c : Thread nD τ) none (dst := (nxt c : Thread nD τ)) (κ := K (nxt c, 3))
      (d := false) (by rw [duties_exit]; exact Finset.mem_univ _) ((amount_exit m (nxt c) false).trans (by decide)) () 0 (by rw [zero_add]))
    $$ [HO HtXN]
  · isplitr; · iexact HIxN
    isplitl [HO]; · iexact HO
    isplitl [HtXN]; · iexact HtXN
    isplitr; · rw [payload_exit]; iempintro
    iexact HmXN
  iintro HO
  iapply (Rounds.wp_wait_rest_token 𝒱₀ ER (ringRd m) (c : Thread nD τ) none (κ := K (c, 3))
      (wpE_semWait_eq 𝒱₀ (c : Thread nD τ) none Set.univ) (Set.mem_univ _) () (O := 0) (R := 0) (m := 0) (T := ∅)
      (by rw [expect_exit]; decide)) $$ [HcX HO HatX]
  · isplitr; · iexact HIx
    isplitl [HcX]; · iexact HcX
    isplitl [HO]; · iexact HO
    isplitr; · rw [MayWait_zero]; iempintro
    iexact HatX
  iintro ⟨HO, HatX, -, -⟩
  -- the four semaphores of the ring close: their counters at zero are the device's again
  imod (Rounds.cell_close ER (ringRd m) (Set.mem_univ (K (c, 0))) (fun h => h) (R := 0 + 1) (duties_later m (barCell c))) $$ [HatB] with HzB
  · isplitr; · iexact HIb
    iexact HatB
  imod (Rounds.cell_close ER (ringRd m) (Set.mem_univ (K (c, 1))) (fun h => h) (R := 0 + 1) (duties_later m (sendCell c))) $$ [HatS] with HzS
  · isplitr; · iexact HIs
    iexact HatS
  imod (Rounds.cell_close ER (ringRd m) (Set.mem_univ (K (c, 2))) (fun h => h) (R := 0 + 1) (duties_later m (recvCell c))) $$ [HatR] with HzR
  · isplitr; · iexact HIr
    iexact HatR
  imod (Rounds.cell_close ER (ringRd m) (Set.mem_univ (K (c, 3))) (fun h => h) (R := 0 + 1) (duties_later m (exitCell c))) $$ [HatX] with HzX
  · isplitr; · iexact HIx
    iexact HatX
  rw [wp_ret]; imodintro
  iapply Hk
  unfold devPost devRest
  isplitr [HK HO]
  · isplitl [HzX Hi0 Hi1 Hi2 Hi3 Hu0 Hu1 HzS HzR]
    · isplitl [HzX]; · iexact HzX
      isplitl [Hi0]; · iexact Hi0
      isplitl [Hi1]; · iexact Hi1
      isplitl [Hi2]; · iexact Hi2
      isplitl [Hi3]; · iexact Hi3
      isplitl [Hu0]; · iexact Hu0
      isplitl [Hu1]; · iexact Hu1
      isplitl [HzS] <;> iassumption
    isplitl [HzB]; · iexact HzB
    isplitl [Hp0 Hp Hb0 Hb1]
    · isplitl [Hp0 Hp]
      · iapply (padded_whole m c); isplitl [Hp0] <;> iassumption
      · iapply (slots_whole c); isplitl [Hb0] <;> iassumption
    isplitl [Hx]; · iexact Hx
    iapply (result_whole c (outAt m c))
    isplitl [Ho0]; · iexact Ho0
    isplitl [Ho1]; · iexact Ho1
    isplitl [Ho2] <;> iassumption
  · isplitl [HK]; · iexact HK
    iexists _; iexact HO

end Cert.KernelIdeal.Conv

end
-- ==== Proof.Deal.lean ====
/-
  WHAT THE LAUNCH DEALS: from the ring's rounds at their start and every device's semaphores at zero, the invariants of
  the ring's sixteen cells under one update, and to each device its positions, the tokens of the duties it pays, and its
  own six semaphores for the copies in and out. Then the credit for what the devices owe each other.
-/
module

public import proofs.«01_k».proof.Proof.Whole
public import Idealize.ShloMosaic.Lib.Pipeline.Launch
public import Idealize.ShloMosaic.Lib.Pipeline.Kit
public import Idealize.ShloMosaic.Lib.Pipeline.CollectiveSegs

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The ring's cells and tokens -/

theorem kcell_injective : Function.Injective (kcell : Dev nD × Fin 4 → GSem nD τ sig) := by
  rintro ⟨c, k⟩ ⟨c', k'⟩ h
  have hc : c = c' := congrArg (fun g : GSem nD τ sig => g.1.1) h
  subst hc
  have hs : Function.Injective csem := by decide
  have hk : k = k' := hs (congrArg Prod.snd h)
  rw [hk]

/-- The sixteen cells. -/
def ringCells : Finset (GSem nD τ sig) := Finset.univ.map ⟨kcell, kcell_injective⟩

/-- The six duties of a device's own cells: which cell, and the duty's name. -/
abbrev duty : Fin 6 → Fin 4 × Bool
  | 0 => (0, false) | 1 => (0, true) | 2 => (1, false) | 3 => (2, false) | 4 => (3, false) | 5 => (3, true)
abbrev tokenOf (cj : Dev nD × Fin 6) : GSem nD τ sig × ℕ × Bool := (kcell (cj.1, (duty cj.2).1), 0, (duty cj.2).2)

theorem tokenOf_injective : Function.Injective (tokenOf : Dev nD × Fin 6 → GSem nD τ sig × ℕ × Bool) := by
  rintro ⟨c, j⟩ ⟨c', j'⟩ h
  have hk : (c, (duty j).1) = (c', (duty j').1) := kcell_injective (congrArg Prod.fst h)
  have hd : (duty j).2 = (duty j').2 := congrArg (fun x : GSem nD τ sig × ℕ × Bool => x.2.2) h
  have hj : Function.Injective duty := by decide
  rw [(Prod.mk.inj hk).1, hj (Prod.ext (Prod.mk.inj hk).2 hd)]

def ringToks : Finset (GSem nD τ sig × ℕ × Bool) := Finset.univ.map ⟨tokenOf, tokenOf_injective⟩

/-- The launch's element: the staging pipeline's rounds, the ring's, and no counter yet. -/
def u₀ : UU :=
  (initOf (Pipeline.cells cfgs cellOf_inj) (Pipeline.launchToks cfgs cellOf_inj), (initOf ringCells ringToks, 1))

omit [FloatOps F] in
theorem launch_parts (a : UR sig nD τ) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the duties of device `c`'s own cells. -/
def toks (c : Dev nD) : sProp 𝕄 :=
  iprop(dutyTok ER (barCell c) 0 false ∗ dutyTok ER (barCell c) 0 true ∗ dutyTok ER (sendCell c) 0 false
    ∗ dutyTok ER (recvCell c) 0 false ∗ dutyTok ER (exitCell c) 0 false ∗ dutyTok ER (exitCell c) 0 true)

/-- What the element gives device `c`: its cells' rounds, its positions in them, and that each is at round 0, and the
    tokens of their duties. -/
def dealt (c : Dev nD) : sProp 𝕄 :=
  iprop((bigSep Finset.univ fun k : Fin 4 => roundState ER (ringRd m) (kcell (c, k)) 0)
    ∗ (bigSep Finset.univ fun k : Fin 4 => atPos ER (kcell (c, k)) 0 ∅ 0)
    ∗ (bigSep Finset.univ fun k : Fin 4 => reached ER (kcell (c, k)) 0) ∗ toks c)

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- Over the ring's cells is over the devices and, for each, over its four cells. -/
theorem over_cells (Φ : GSem nD τ sig → sProp 𝕄) :
    bigSep ringCells Φ = bigSep Finset.univ fun c : Dev nD => bigSep Finset.univ fun k : Fin 4 => Φ (kcell (c, k)) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [six]; rfl

omit [FloatOps F] in
theorem deal : BI.own (ER (initOf ringCells ringToks)) ⊢ (|==> bigSep Finset.univ (dealt m) : sProp 𝕄) := by
  iintro H
  imod (Rounds.fund ER (ringRd m) ringCells ringToks) $$ H with ⟨Hst, Hr, Hat, Htok⟩
  imodintro
  ihave Hst := (Entails.of_eq (over_cells fun g => roundState ER (ringRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt; simp only [bigSep_sep']
  isplitl [Hst]; · iexact Hst
  isplitl [Hat]; · iexact Hat
  isplitl [Hr] <;> iassumption

/-! ## The semaphores -/

/-- The kernel's own semaphores: exit, the four of the copies in, the two of the copies out, send, receive. -/
abbrev osem : Fin 9 → SemLoc sig
  | 0 => .reg exitS | 1 => .dma in0 | 2 => .dma in1 | 3 => .dma in2 | 4 => .dma in3 | 5 => .dma out0 | 6 => .dma out1
  | 7 => .dma sendS | 8 => .dma recvS

theorem ownSemFacts : Pipeline.OwnSemFacts cfg0.spec osem := by decide

/-- Device `c`'s semaphores for its copies in and out, at zero. -/
def locals (c : Dev nD) : sProp 𝕄 :=
  iprop(sv0 c (.dma in0) ∗ sv0 c (.dma in1) ∗ sv0 c (.dma in2) ∗ sv0 c (.dma in3) ∗ sv0 c (.dma out0) ∗ sv0 c (.dma out1))

omit [FloatOps F] in
theorem own_sems (c : Dev nD) :
    (Pipeline.ownSems0 (Ix := Unit) (Name := ℕ) (U := UU) (Lvl := ℕ) (Val := Elt F) (τ := τ) osem c : sProp 𝕄)
      = iprop(sv0 c (.reg exitS) ∗ sv0 c (.dma in0) ∗ sv0 c (.dma in1) ∗ sv0 c (.dma in2) ∗ sv0 c (.dma in3)
          ∗ sv0 c (.dma out0) ∗ sv0 c (.dma out1) ∗ sv0 c (.dma sendS) ∗ sv0 c (.dma recvS)) := by
  rw [Pipeline.ownSems0_eq_of_list c osem [0, 1, 2, 3, 4, 5, 6, 7, 8] (by decide) (by decide)]; rfl
omit [FloatOps F] in
/-- The barrier semaphore is the one semaphore outside the kernel's scope. -/
theorem outer_sems (c : Dev nD) : (unscopedSems0 c : sProp 𝕄) = sv0 c (.reg barS) := by
  unfold unscopedSems0; rw [bigSep_eq_bigSepL_of_eq [SemLoc.reg barS] (by decide) (by decide)]; rfl

omit [FloatOps F] in
theorem sems_sorted (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 4 => semVal (kcell (c, k)) 0) ∗ locals c) : sProp 𝕄) := by
  rw [own_sems, outer_sems, four]; unfold locals
  iintro ⟨⟨HX, H0, H1, H2, H3, H4, H5, HS, HR⟩, HB⟩
  isplitl [HB HS HR HX]
  · isplitl [HB]; · iexact HB
    isplitl [HS]; · iexact HS
    isplitl [HR] <;> iassumption
  isplitl [H0]; · iexact H0
  isplitl [H1]; · iexact H1
  isplitl [H2]; · iexact H2
  isplitl [H3]; · iexact H3
  isplitl [H4] <;> iassumption

/-! ## The invariants, for all devices at once -/

/-- What device `c` has once its cells' invariants are made. -/
def made (c : Dev nD) : sProp 𝕄 :=
  iprop((bigSep Finset.univ fun k : Fin 4 => iprop(∃ κ : ℕ, cellInv ER (ringRd m) κ (kcell (c, k))))
    ∗ (bigSep Finset.univ fun k : Fin 4 => atPos ER (kcell (c, k)) 0 ∅ 0)
    ∗ (bigSep Finset.univ fun k : Fin 4 => reached ER (kcell (c, k)) 0) ∗ toks c ∗ locals c)

omit [FloatOps F] in
theorem make (c : Dev nD) :
    iprop(Pipeline.ownSems0 (Ix := Unit) (Name := ℕ) (U := UU) (Lvl := ℕ) (Val := Elt F) (τ := τ) osem c ∗ unscopedSems0 c ∗ dealt m c)
      ⊢ |={Set.univ}=> made m c := by
  have alloc : iprop((bigSep Finset.univ fun k : Fin 4 => semVal (kcell (c, k)) 0)
        ∗ bigSep Finset.univ fun k : Fin 4 => roundState ER (ringRd m) (kcell (c, k)) 0)
      ⊢ (|={Set.univ}=> bigSep Finset.univ fun k : Fin 4 => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold dealt made
  iintro ⟨Hown, Hout, Hst, Hat, Hr, Htok⟩
  ihave Hs := (sems_sorted c) $$ [Hown Hout]
  · isplitl [Hown] <;> iassumption
  icases Hs with ⟨Hv, Hl⟩
  imod alloc $$ [Hv Hst] with Hinv
  · isplitl [Hv] <;> iassumption
  imodintro
  isplitl [Hinv]; · iexact Hinv
  isplitl [Hat]; · iexact Hat
  isplitl [Hr]; · iexact Hr
  isplitl [Htok] <;> iassumption

/-- The invariants of all the cells under the names `K`, and that every cell is at round 0. -/
def records (K : Dev nD × Fin 4 → ℕ) : sProp 𝕄 :=
  iprop((bigSep Finset.univ fun ck : Dev nD × Fin 4 => cellInv ER (ringRd m) (K ck) (kcell ck))
    ∗ bigSep Finset.univ fun ck : Dev nD × Fin 4 => reached ER (kcell ck) 0)

omit [FloatOps F] in
instance records_persistent (K : Dev nD × Fin 4 → ℕ) : BI.Persistent (records (F := F) m K) := by unfold records; infer_instance

omit [FloatOps F] in
theorem record_inv (K : Dev nD × Fin 4 → ℕ) (ck : Dev nD × Fin 4) :
    records m K ⊢ (cellInv ER (ringRd m) (K ck) (kcell ck) : sProp 𝕄) := by
  unfold records
  exact sep_elim_left.trans (bigSep_elim (Φ := fun ck => (cellInv ER (ringRd m) (K ck) (kcell ck) : sProp 𝕄)) (Finset.mem_univ ck))
omit [FloatOps F] in
theorem record_mark (K : Dev nD × Fin 4 → ℕ) (ck : Dev nD × Fin 4) :
    records m K ⊢ (reached ER (kcell ck) 0 : sProp 𝕄) := by
  unfold records
  exact sep_elim_right.trans (bigSep_elim (Φ := fun ck => (reached ER (kcell ck) 0 : sProp 𝕄)) (Finset.mem_univ ck))

/-- What a device's program starts from, besides its buffers and its credit. -/
def begun (c : Dev nD) : sProp 𝕄 := iprop((∃ K, ghost m K c) ∗ locals c)

omit [FloatOps F] in
theorem begun_intro (K : Dev nD × Fin 4 → ℕ) (c : Dev nD) :
    iprop(records m K ∗ (positions c ∗ payToks c ∗ locals c)) ⊢ begun m c := by
  unfold begun ghost invs marks
  iintro ⟨#HR, Hpos, Hpay, Hl⟩
  isplitr [Hl]
  · iexists K
    isplitr
    · isplitr; · iapply (record_inv m K (c, 0)); iexact HR
      isplitr; · iapply (record_inv m K (c, 1)); iexact HR
      isplitr; · iapply (record_inv m K (c, 2)); iexact HR
      isplitr; · iapply (record_inv m K (c, 3)); iexact HR
      isplitr; · iapply (record_inv m K (nxt c, 0)); iexact HR
      isplitr; · iapply (record_inv m K (prv c, 0)); iexact HR
      isplitr; · iapply (record_inv m K (nxt c, 2)); iexact HR
      isplitr; · iapply (record_inv m K (nxt c, 3)); iexact HR
      iapply (record_inv m K (prv c, 3)); iexact HR
    isplitr
    · isplitr; · iapply (record_mark m K (nxt c, 0)); iexact HR
      isplitr; · iapply (record_mark m K (prv c, 0)); iexact HR
      isplitr; · iapply (record_mark m K (nxt c, 2)); iexact HR
      isplitr; · iapply (record_mark m K (c, 1)); iexact HR
      isplitr; · iapply (record_mark m K (nxt c, 3)); iexact HR
      iapply (record_mark m K (prv c, 3)); iexact HR
    isplitl [Hpos] <;> iassumption
  · iexact Hl

omit [FloatOps F] in
/-- The tokens passed around the ring to the devices that pay them: `false` ones of barrier, receive and exit cells to
    the device before, `true` ones to the device after. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell c) 0 false : sProp 𝕄)),
    bigSep_univ_equiv ring (fun c : Dev nD => (dutyTok ER (exitCell c) 0 false : sProp 𝕄)),
    bigSep_univ_equiv ring.symm (fun c : Dev nD => (dutyTok ER (exitCell c) 0 true : sProp 𝕄))]
  iintro ⟨HBf, HBt, HS, HR, HXf, HXt⟩
  isplitl [HBf]; · iexact HBf
  isplitl [HBt]; · iexact HBt
  isplitl [HR]; · iexact HR
  isplitl [HS]; · iexact HS
  isplitl [HXf]; · iexact HXf
  iexact HXt

omit [FloatOps F] in
theorem begin_all : (bigSep Finset.univ fun c : Dev nD => made m c) ⊢ bigSep Finset.univ (begun (F := F) m) := by
  unfold made
  simp only [bigSep_sep']
  rw [← bigSep_univ_prod (fun ck : Dev nD × Fin 4 => (iprop(∃ κ : ℕ, cellInv ER (ringRd m) κ (kcell ck)) : sProp 𝕄)),
    ← bigSep_univ_prod (fun ck : Dev nD × Fin 4 => (reached ER (kcell ck) 0 : sProp 𝕄))]
  iintro ⟨HI, Hat, #HR, Htok, Hl⟩
  ihave HK := (BI.bigSep_exists_pi Finset.univ (fun (ck : Dev nD × Fin 4) (κ : ℕ) => (cellInv ER (ringRd m) κ (kcell ck) : sProp 𝕄))) $$ HI
  icases HK with ⟨%K, #HI⟩
  ihave Hpay := toks_around $$ Htok
  have share : iprop(records m K ∗ bigSep Finset.univ fun c : Dev nD => iprop(positions c ∗ payToks c ∗ locals c))
      ⊢ bigSep Finset.univ (begun (F := F) m) :=
    (sep_mono_left (BI.bigSep_of_persistent Finset.univ (records m K))).trans
      (by rw [← bigSep_sep']; exact bigSep_mono fun c _ => begun_intro m K c)
  iapply share
  isplitr
  · unfold records; isplitr; · iexact HI
    iexact HR
  · unfold positions
    simp only [bigSep_sep', four]
    icases Hat with ⟨H0, H1, H2, H3⟩
    isplitl [H0 H1 H2 H3]
    · isplitl [H0]; · iexact H0
      isplitl [H1]; · iexact H1
      isplitl [H2]; · iexact H2
      iexact H3
    isplitl [Hpay]; · iexact Hpay
    iexact Hl

omit [FloatOps F] in
/-- The launch's one update over all devices. -/
theorem make_all :
    (bigSep Finset.univ fun c => iprop(Pipeline.ownSems0 (Ix := Unit) (Name := ℕ) (U := UU) (Lvl := ℕ) (Val := Elt F) (τ := τ) osem c
        ∗ unscopedSems0 c ∗ dealt m c) : sProp 𝕄)
      ⊢ |={Set.univ}=> bigSep Finset.univ (begun m) :=
  ((bigSep_mono fun c _ => make m c).trans (bigSep_fupd _ _)).trans (BI.fupd_mono (begin_all m))

/-! ## The credit for what the devices owe -/

theorem cell_iff (s : SemLoc sig) {a b : Dev nD} : (((a : Thread nD τ), s) : GSem nD τ sig) = ((b : Thread nD τ), s) ↔ a = b :=
  ⟨fun h => congrArg (fun g : GSem nD τ sig => g.1.1) h, fun h => h ▸ rfl⟩
theorem nxt_iff {c d : Dev nD} : c = nxt d ↔ d = prv c := ⟨fun h => by rw [h, prv_nxt], fun h => by rw [h, nxt_prv]⟩
theorem prv_iff {c d : Dev nD} : c = prv d ↔ d = nxt c := ⟨fun h => by rw [h, nxt_prv], fun h => by rw [h, prv_nxt]⟩

/-- A tally of device `a`'s semaphore `s`, read at device `b`'s. -/
theorem tally_same (s : SemLoc sig) (a b : Dev nD) (k : ℕ) :
    (tallyAt (((a : Thread nD τ), s) : GSem nD τ sig) () k : CellTallies nD τ sig Unit) ((b : Thread nD τ), s) () = if b = a then k else 0 := by
  rw [tallyAt_apply]
  by_cases h : b = a
  · subst h; rw [if_pos ⟨rfl, rfl⟩, if_pos rfl]
  · rw [if_neg (fun h' => h ((cell_iff s).1 h'.1)), if_neg h]
theorem tally_other {s s' : SemLoc sig} (h : s' ≠ s) (a b : Dev nD) (k : ℕ) :
    (tallyAt (((a : Thread nD τ), s) : GSem nD τ sig) () k : CellTallies nD τ sig Unit) ((b : Thread nD τ), s') () = 0 := by
  rw [tallyAt_apply, if_neg (fun h' => h (congrArg Prod.snd h'.1))]

/-- What device `d` owes the cells of device `c`. -/
theorem owed_bar (d c : Dev nD) : O₀ d (barCell c) () = (if d = prv c then 1 else 0) + (if d = nxt c then 1 else 0) := by
  unfold O₀ O₁ O₂ OX
  simp only [Pi.add_apply, Finsupp.add_apply]
  rw [tally_other exit_ne_bar.symm, tally_other exit_ne_bar.symm, tally_other (reg_ne_dma _ _), tally_same, tally_same]
  simp only [nxt_iff (c := c) (d := d), prv_iff (c := c) (d := d), Nat.zero_add]
theorem owed_recv (d c : Dev nD) : O₀ d (recvCell c) () = if d = prv c then N else 0 := by
  unfold O₀ O₁ O₂ OX
  simp only [Pi.add_apply, Finsupp.add_apply]
  rw [tally_other (dma_ne_reg _ _), tally_other (dma_ne_reg _ _), tally_other (dma_ne_reg _ _), tally_other (dma_ne_reg _ _), tally_same]
  simp only [nxt_iff (c := c) (d := d), Nat.zero_add, Nat.add_zero]
theorem owed_exit (d c : Dev nD) : O₀ d (exitCell c) () = (if d = prv c then 1 else 0) + (if d = nxt c then 1 else 0) := by
  unfold O₀ O₁ O₂ OX
  simp only [Pi.add_apply, Finsupp.add_apply]
  rw [tally_other (reg_ne_dma _ _), tally_other exit_ne_bar, tally_other exit_ne_bar, tally_same, tally_same]
  simp only [nxt_iff (c := c) (d := d), prv_iff (c := c) (d := d), Nat.add_zero]

/-- The launch's credit at a cell, from what the four devices owe it. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem sum_pair (c : Dev nD) : ∑ d : Dev nD, ((if d = prv c then 1 else 0) + (if d = nxt c then 1 else 0)) = 2 := by
  rw [Finset.sum_add_distrib, Finset.sum_ite_eq' Finset.univ (prv c) fun _ => 1, Finset.sum_ite_eq' Finset.univ (nxt c) fun _ => 1,
    if_pos (Finset.mem_univ _), if_pos (Finset.mem_univ _)]

omit [FloatOps F] in
theorem credits (c : Dev nD) :
    (Pipeline.launchCred O₀ c : sProp 𝕄)
      ⊢ iprop(cred (tallyAt (barCell c) () 2) ∗ cred (tallyAt (recvCell c) () N) ∗ cred (tallyAt (exitCell c) () 2)) := by
  rw [← credit_at (barCell c) 2 (by rw [Finset.sum_congr rfl fun d _ => owed_bar d c, sum_pair]),
    ← credit_at (exitCell c) 2 (by rw [Finset.sum_congr rfl fun d _ => owed_exit d c, sum_pair]),
    ← credit_at (recvCell c) N (by
      rw [Finset.sum_congr rfl fun d _ => owed_recv d c, Finset.sum_ite_eq' Finset.univ (prv c) fun _ => N, if_pos (Finset.mem_univ _)])]
  unfold Pipeline.launchCred
  rw [bigSep_univ_at _ (SemLoc.reg barS)]
  refine sep_mono_right ?_
  rw [bigSep_erase (i := SemLoc.dma recvS) (Finset.mem_erase.mpr ⟨dma_ne_reg _ _, Finset.mem_univ _⟩)]
  refine sep_mono_right ?_
  exact bigSep_elim (Finset.mem_erase.mpr ⟨reg_ne_dma _ _, Finset.mem_erase.mpr ⟨exit_ne_bar, Finset.mem_univ _⟩⟩)

end Cert.KernelIdeal.Conv

end
-- ==== Proof.Launch.lean ====
/-
  THE LAUNCH on the mesh of four devices: the filter is staged, the program runs on every device at once, and every run
  ends with each device's result at `outAt`, its rows of `x` and the filter as they were, and every semaphore at zero.
-/
module

public import proofs.«01_k».proof.Proof.Deal

@[expose] public section

set_option maxRecDepth 16384

noncomputable section

namespace Cert.KernelIdeal.Conv

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging pipeline's data -/

/-- What a device holds at the program's start, besides its buffers in the kernel's scope. -/
def start (c : Dev nD) : sProp 𝕄 :=
  iprop(begun m c ∗ levAts L lv
    ∗ (cred (tallyAt (barCell c) () 2) ∗ cred (tallyAt (recvCell c) () N) ∗ cred (tallyAt (exitCell c) () 2))
    ∗ xPts m c fullShare Finset.univ ∗ ∃ f, oPts c Finset.univ f)

/-- The same with the padded buffer and the output buffer at any contents. -/
def atEntry (c : Dev nD) : sProp 𝕄 :=
  iprop(start m c ∗ (∃ f, pPts c Finset.univ f) ∗ ∃ f, bPts c Finset.univ f)

/-- One window, the filter, staged whole and left as it is; one point, before which the device holds `atEntry` and owes
    `O₀`, after which it holds `devRest` and owes nothing. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ks m c
  Φ t := match t with
    | ⟨0, _⟩ => atEntry m c
    | ⟨_ + 1, _⟩ => devRest m c
  q _ := fullShare
  owed t := match t with
    | ⟨0, _⟩ => O₀ c
    | ⟨_ + 1, _⟩ => 0

theorem share_full (c : Dev nD) (w : Fin cfg0.W) : (dats m ρ 0 c).share w = fullShare := by unfold Dat.share; split <;> rfl

/-! ## The body -/

theorem fetched (t : Fin cfg0.N) : (cfg0.win (0 : Fin 1)).fetch t = true := by rw [fin_N0 t]; rfl

/-- The staging buffer holds the filter when the body starts. -/
theorem staged (c : Dev nD) (d) : (dats m ρ 0 c).before (0 : Fin 1) t0_0 d = ks m c := by
  unfold Dat.before; rw [if_pos (fetched t0_0)]
  funext j
  unfold Dat.fetched Pipeline.Window.fill
  rw [dif_pos (((cfg0.win (0 : Fin 1)).moved_iff _ j).mpr fun a => (j a).isLt)]
  refine congrArg (ks m c) (funext fun a => Fin.ext ?_)
  show 0 * _ + 1 * (j a).val = (j a).val
  omega

omit [FloatOps F] in
/-- To own a whole buffer at known contents is to hold its points-to. -/
theorem own_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The filter's staging buffer at contents `X`, as the pipeline states it. -/
abbrev stagedAt (c : Dev nD) (X : FVec F S4x1024 .f32) : sProp 𝕄 :=
  iprop(∃ f : Buf (Elt F) ((c : Thread nD τ).loc cc0_stg0_0), ⌜f = X⌝ ∗ (((c : Thread nD τ).loc cc0_stg0_0) ↦{fullShare} f))

theorem body_sound (c : Dev nD) :
    iprop(atEntry m c ∗ (dats m ρ 0 c).owesAt () t0_0.castSucc ∗ (∃ d, stagedAt c ((dats m ρ 0 c).before (0 : Fin 1) t0_0 d)))
      ⊢ wp frame (wpE (defs₀ (F := F)) 𝒱₀ (c : Thread nD τ) none) Set.univ (prog (F := F))
          (fun _ => iprop(devRest m c ∗ (dats m ρ 0 c).owesAt () t0_0.succ ∗ stagedAt c (ks m c))) := by
  unfold Dat.owesAt Pipeline.owesWithin
  rw [show (dats m ρ 0 c).owed t0_0.castSucc = O₀ c from rfl, show (dats m ρ 0 c).owed t0_0.succ = 0 from rfl]
  unfold atEntry start begun locals
  iintro ⟨⟨⟨⟨⟨%K, Hg⟩, Hl⟩, Hlev, ⟨HcB, HcR, HcX⟩, Hx, Ho⟩, Hp, Hb⟩, ⟨%W, %hW, HO⟩, ⟨%d, %g, %hg, HK⟩⟩
  rw [staged] at hg
  subst hg
  iapply (sound_prog m K c _)
  unfold devPre
  isplitr []
  · isplitl [Hg Hlev HcB HcR HcX]
    · isplitl [Hg]; · iexact Hg
      isplitl [Hlev]; · iexact Hlev
      isplitl [HcB]; · iexact HcB
      isplitl [HcR] <;> iassumption
    isplitl [Hl]; · iexact Hl
    isplitl [Hp Hb Hx Ho]
    · isplitl [Hp]; · iexact Hp
      isplitl [Hb]; · iexact Hb
      isplitl [Hx] <;> iassumption
    isplitl [HK]; · iexact HK
    iexists W; iexact HO
  · unfold devPost
    iintro ⟨Hr, HK, ⟨%W', HO⟩⟩
    isplitl [Hr]; · iexact Hr
    isplitl [HO]
    · iexists W'
      isplitr; · ipureintro; exact fun _ _ => Or.inl trivial
      iexact HO
    iexists _
    isplitr; · ipureintro; rfl
    iexact HK

theorem body_obligation (c : Dev nD) : BodyObligation (dats (F := F) m ρ 0 c) (defs₀ (F := F)) 𝒱₀ () Set.univ := fun t => by
  rw [fin_N0 t]
  rw [bigSep_W0, bigSep_W0]
  simp only [own_whole]
  exact body_sound m ρ c

/-! ## The launch's side conditions -/

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun m c)
      ⊢ |={Set.univ}=> iprop(start m c ∗ emp) := by
  rw [Pipeline.unscopedRestP_none, unscopedRest0_eq]
  iintro ⟨⟨Hx, Ho⟩, Hlev, Hcr, -, Hbeg⟩
  ihave Hc := (credits c) $$ Hcr
  imodintro
  unfold start
  isplitl
  · isplitl [Hbeg]; · iexact Hbeg
    isplitl [Hlev]; · iexact Hlev
    isplitl [Hc]; · iexact Hc
    isplitl [Hx]; · iexact Hx
    iexists _; iexact Ho
  · iempintro

theorem enter_scope (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atEntry m c from rfl, scopedRest0_eq]
  unfold atEntry
  iintro ⟨Hs, -, Hp, Hb⟩
  isplitl [Hs]; · iexact Hs
  isplitl [Hp] <;> iassumption

/-- What is read off the final memory: the barrier semaphore at zero, `x` and the result. -/
def final (c : Dev nD) : sProp 𝕄 :=
  iprop(unscopedSems0 c ∗ xPts m c xq Finset.univ ∗ oPts c Finset.univ (outAt m c))

theorem leave (c : Dev nD) :
    (dats m ρ 0 c).Φ (Fin.last cfg0.N) ⊢ iprop(final m c ∗ Pipeline.ownSems0 osem c ∗ Pipeline.scopedRest cfg0.spec c) := by
  rw [show (dats m ρ 0 c).Φ (Fin.last cfg0.N) = devRest m c from rfl, scopedRest0_eq, own_sems]
  unfold final devRest
  rw [outer_sems]
  iintro ⟨Hs, HB, Hpb, Hx, Ho⟩
  isplitl [HB Hx Ho]
  · isplitl [HB]; · iexact HB
    isplitl [Hx] <;> iassumption
  isplitl [Hs] <;> iassumption

/-- Whatever a device owes, it may wait for its staging copy. -/
theorem stage_waits (c : Dev nD) : (levAts L lv : sProp 𝕄) ⊢ Pipeline.cellsWaits cfgs (dats m ρ) () 0 c :=
  Pipeline.cellsWaits_intro cfgs (dats m ρ) () 0 c fun w s t => mayWait c _ _ (by
    have h0 : lvOf (.dma (((cfgs 0).win w).sem s)) = 0 := by fin_cases w; fin_cases s; decide
    rw [h0]
    rcases t with ⟨_ | _, ht⟩
    · exact above_O₀ c
    · exact above_zero 0)

/-- The final memory of device `c`. -/
def Final (c : Dev nD) (s : MemSt nD τ sig (Elt F)) : Prop :=
  s.mem ((c : Thread nD τ).loc main_arg0) = xs m c ∧ s.mem ((c : Thread nD τ).loc main_arg1) = ks m c
    ∧ s.mem ((c : Thread nD τ).loc main_v1) = outAt m c

theorem read_final (c : Dev nD) (s' : Phys nD τ sig (Elt F)) :
    iprop(final m c ∗ emp ∗ SI s') ⊢ |={Set.univ}=> iprop(⌜(∀ sm : SemLoc sig, sm.isScoped .tc = false → s'.mem.sem ((c : Thread nD τ), sm) = 0)
        ∧ s'.mem.mem ((c : Thread nD τ).loc main_arg0) = xs m c ∧ s'.mem.mem ((c : Thread nD τ).loc main_v1) = outAt m c⌝ ∗ SI s') := by
  unfold final
  iintro ⟨⟨Hu, Hx, Ho⟩, -, HSI⟩
  imod (Pipeline.unscopedSems0_read (X := unscopedSems0 c) (c := c) fupd_intro s') $$ [Hu HSI] with ⟨%hs, HSI⟩
  · isplitl [Hu] <;> iassumption
  icombine HSI Hx gives %hx
  icombine HSI Ho gives %ho
  imodintro
  isplitr
  · ipureintro
    exact ⟨hs, Buf.eq_of_forall_mem_univ hx, Buf.eq_of_forall_mem_univ ho⟩
  · iexact HSI

/-! ## The run -/

set_option maxRecDepth 8000 in
/-- For any float values, from any memory with every semaphore at zero: every fair run of the four devices ends, with
    each device's result at `outAt`, its arguments unchanged and every semaphore at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := dealt m) (G' := begun m) (u₀ := u₀)
    (hu₀ := by
      unfold u₀
      iintro Hu
      ihave H := (launch_parts _ _) $$ Hu
      icases H with ⟨HP, HR⟩
      imod (deal m) $$ HR with HG
      imodintro
      isplitl [HP] <;> iassumption)
    (hglob := make_all m)
    (hA := fun _ _ => rfl) (hpf := fun _ k => k.elim0)
    (X := start m) (Y := final m) (Z := fun _ => iprop(emp))
    (hX := enter m ρ) (hin := enter_scope m ρ) (hout := leave m ρ)
    (QY := fun c s => (∀ sm : SemLoc sig, sm.isScoped .tc = false → s.sem ((c : Thread nD τ), sm) = 0)
        ∧ s.mem ((c : Thread nD τ).loc main_arg0) = xs m c ∧ s.mem ((c : Thread nD τ).loc main_v1) = outAt m c)
    (hY := read_final m)
    (hQ := fun _ h hs => ⟨fun c => ⟨(h c).2.2.2.1, ((h c).1 (0 : Fin 1)).trans ((dats (F := F) m ρ 0 c).arrAt_in (0 : Fin 1) rfl _), (h c).2.2.2.2⟩,
      sem_eq_zero hs fun c => (h c).2.2.1⟩)

end Cert.KernelIdeal.Conv

end
-- ==== Proof.Reference.lean ====
/-
  WHAT THE REFERENCE COMPUTES, at one element of its result, over the extended reals.

  The reference puts three rows of zeros before the 16384 rows of `x`, adds up four shifted products — row `r + t` of
  the padded array times row `t` of the filter, for `t` from 0 to 3, from zero on —, and gates the sum.
-/
module

public import proofs.«01_k».proof.Proof.Gen.ReferenceIdeal.Run
public import Idealize.ShloMosaic.Lib.Pipeline.Value
public import Idealize.ShloMosaic.Lib.ValueIdxCore
public import Idealize.ShloMosaic.Lib.IdealHost

@[expose] public section

set_option maxRecDepth 16384

noncomputable section

namespace Cert.ReferenceIdeal.Conv

open Cert.ReferenceIdeal Cert.ReferenceIdeal.Gen
open Idealize.ShloMosaic Idealize.ShloMosaic.ValueIdx Idealize.ShloMosaic.TcCoe

/-- The padded array's row `R`: zero for the first three rows, then the rows of `x`. -/
def padRow (x : FVec Ideal S2x16384x1024 .f32) (b : Fin 2) (R : Nat) (hR : R < 16387) (ch : Fin 1024) : EReal :=
  if h : R < 3 then 0 else x (ix3 b ⟨R - 3, by omega⟩ ch)

/-- The sum of the four products at one element, in the reference's order. -/
def taps (x : FVec Ideal S2x16384x1024 .f32) (k : FVec Ideal S4x1024 .f32) (b : Fin 2) (r : Fin 16384) (ch : Fin 1024) : EReal :=
  (((0 + padRow x b r.val (by omega) ch * k (ix2 (0 : Fin 4) ch)) + padRow x b (r.val + 1) (by omega) ch * k (ix2 (1 : Fin 4) ch))
    + padRow x b (r.val + 2) (by omega) ch * k (ix2 (2 : Fin 4) ch)) + padRow x b (r.val + 3) (by omega) ch * k (ix2 (3 : Fin 4) ch)

/-- The gate `a / (1 + exp (-a))`. -/
def gated (a : EReal) : EReal := Ideal.div a (Ideal.ofBits .f32 0x3F800000#32 + Ideal.exp (-a))

/-- The printed concatenation, read at an index: the padded array's row. -/
theorem pad_apply (x : FVec Ideal S2x16384x1024 .f32) (b : Fin 2) (R : Nat) (hR : R < 16387) (ch : Fin 1024) :
    concatenate S2x16387x1024 1 [⟨S2x3x1024, (broadcastInDim S2x3x1024 ![] bcast_S_S2x3x1024 (constant (F := Ideal) S_ .f32 0x00000000#32))⟩,
      ⟨S2x16384x1024, x⟩] concatenates_S2x3x1024_S2x16384x1024_S2x16387x1024_d1 (ix3 b ⟨R, hR⟩ ch) = padRow x b R hR ch := by
  unfold padRow
  by_cases h : R < 3
  · rw [dif_pos h]
    refine (concatenate_pair_apply_left (t := S2x16387x1024) (s₁ := S2x3x1024) (s₂ := S2x16384x1024) 1 _ _ _ _ rfl
      (ix3 b ⟨R, h⟩ ch) ?_).trans ?_
    · intro a; match a with
      | ⟨0, _⟩ => rfl
      | ⟨1, _⟩ => rfl
      | ⟨2, _⟩ => rfl
    · exact (broadcastInDim_scalar_apply _ _ _).trans Ideal.ofBits_zero_f32
  · rw [dif_neg h]
    refine concatenate_pair_apply_right (t := S2x16387x1024) (s₁ := S2x3x1024) (s₂ := S2x16384x1024) 1 _ _ _ _ rfl rfl
      (ix3 b ⟨R - 3, by omega⟩ ch) ?_ ?_
    · intro a ha; match a, ha with
      | ⟨0, _⟩, _ => rfl
      | ⟨1, _⟩, ha => exact absurd rfl ha
      | ⟨2, _⟩, _ => rfl
    · show R - 3 + 3 = R; omega

/-- A slice of an array of the padded shape from row `t` on, read at an index, is the array `t` rows further. -/
theorem shift_apply (X : FVec Ideal S2x16387x1024 .f32) (t : Nat) (ht : t ≤ 3) (h : S2x16387x1024.Slices ![0, t, 0] S2x16384x1024)
    (b : Fin 2) (r : Fin 16384) (ch : Fin 1024) :
    extractStridedSlice S2x16384x1024 ![0, t, 0] X h (ix3 b r ch) = X (ix3 b ⟨r.val + t, by omega⟩ ch) := by
  unfold extractStridedSlice
  refine congrArg X (funext fun a => Fin.ext ?_)
  match a with
  | ⟨0, _⟩ => exact Nat.zero_add _
  | ⟨1, _⟩ => exact Nat.add_comm _ _
  | ⟨2, _⟩ => exact Nat.zero_add _

/-- Row `t` of the filter, cut out and spread over the batch and the rows, reads the filter at that row and the channel. -/
theorem weight_apply (k : FVec Ideal S4x1024 .f32) (t : Nat) (ht : t < 4) (h : S4x1024.Slices ![t, 0] S1x1024)
    (b : Fin 2) (r : Fin 16384) (ch : Fin 1024) :
    broadcastInDim S2x16384x1024 ![0, 1, 2] bcast_S1x1x1024_S2x16384x1024_0_1_2
      (broadcastInDim S1x1x1024 ![2] bcast_S1024_S1x1x1024_2
        (shapeCast S1024 (extractStridedSlice S1x1024 ![t, 0] k h) shapeCasts_S1x1024_S1024)) (ix3 b r ch) = k (ix2 ⟨t, ht⟩ ch) := by
  refine (broadcastInDim_apply _ _ _ _ (ix3 (0 : Fin 1) (0 : Fin 1) ch) ?_).trans ?_
  · intro a; match a with
    | ⟨0, _⟩ => rfl
    | ⟨1, _⟩ => rfl
    | ⟨2, _⟩ => rfl
  refine (broadcastInDim_apply _ _ _ _ (ix1 ch) ?_).trans ?_
  · intro a; match a with
    | ⟨0, _⟩ => rfl
  refine (shapeCast_dropUnit_apply ![1024] _ _ _).trans ?_
  unfold extractStridedSlice
  refine congrArg k (funext fun a => Fin.ext ?_)
  match a with
  | ⟨0, _⟩ => rfl
  | ⟨1, _⟩ => exact Nat.zero_add _

/-- The reference's result at an element: the gated sum of the four products there. -/
theorem result_apply (m : (ℓ : Loc nD τ sig) → Buf (Elt Ideal) ℓ) (c : Dev nD) (b : Fin 2) (r : Fin 16384) (ch : Fin 1024) :
    Value.res_out0 m c (ix3 b r ch) = gated (taps (m ((c.tc : Thread nD τ).loc main_arg0)) (m ((c.tc : Thread nD τ).loc main_arg1)) b r ch) := by
  have key : ∀ (t : Nat) (ht : t ≤ 3) (h : S2x16387x1024.Slices ![0, t, 0] S2x16384x1024) (h' : S4x1024.Slices ![t, 0] S1x1024)
      (x : FVec Ideal S2x16384x1024 .f32) (k : FVec Ideal S4x1024 .f32),
      mulf (extractStridedSlice S2x16384x1024 ![0, t, 0]
          (concatenate S2x16387x1024 1 [⟨S2x3x1024, (broadcastInDim S2x3x1024 ![] bcast_S_S2x3x1024 (constant (F := Ideal) S_ .f32 0x00000000#32))⟩,
            ⟨S2x16384x1024, x⟩] concatenates_S2x3x1024_S2x16384x1024_S2x16387x1024_d1) h)
        (broadcastInDim S2x16384x1024 ![0, 1, 2] bcast_S1x1x1024_S2x16384x1024_0_1_2
          (broadcastInDim S1x1x1024 ![2] bcast_S1024_S1x1x1024_2
            (shapeCast S1024 (extractStridedSlice S1x1024 ![t, 0] k h') shapeCasts_S1x1024_S1024))) (ix3 b r ch)
      = padRow x b (r.val + t) (by omega) ch * k (ix2 ⟨t, by omega⟩ ch) := fun t ht h h' x k =>
    congrArg₂ (fun y z : EReal => y * z) ((shift_apply _ t ht h b r ch).trans (pad_apply x b _ _ ch)) (weight_apply k t (by omega) h' b r ch)
  have zero : broadcastInDim S2x16384x1024 ![] bcast_S_S2x16384x1024 (constant (F := Ideal) S_ .f32 0x00000000#32) (ix3 b r ch) = (0 : EReal) :=
    (broadcastInDim_scalar_apply _ _ _).trans Ideal.ofBits_zero_f32
  have sum := congrArg₂ (fun y z : EReal => y + z)
    (congrArg₂ (fun y z : EReal => y + z)
      (congrArg₂ (fun y z : EReal => y + z)
        (congrArg₂ (fun y z : EReal => y + z) zero (key 0 (by omega) slices_S2x16387x1024_S2x16384x1024_0_0_0 slices_S4x1024_S1x1024_0_0 (m ((c.tc : Thread nD τ).loc main_arg0)) (m ((c.tc : Thread nD τ).loc main_arg1))))
        (key 1 (by omega) slices_S2x16387x1024_S2x16384x1024_0_1_0 slices_S4x1024_S1x1024_1_0 (m ((c.tc : Thread nD τ).loc main_arg0)) (m ((c.tc : Thread nD τ).loc main_arg1))))
      (key 2 (by omega) slices_S2x16387x1024_S2x16384x1024_0_2_0 slices_S4x1024_S1x1024_2_0 (m ((c.tc : Thread nD τ).loc main_arg0)) (m ((c.tc : Thread nD τ).loc main_arg1))))
    (key 3 (by omega) slices_S2x16387x1024_S2x16384x1024_0_3_0 slices_S4x1024_S1x1024_3_0 (m ((c.tc : Thread nD τ).loc main_arg0)) (m ((c.tc : Thread nD τ).loc main_arg1)))
  have one : broadcastInDim S2x16384x1024 ![] bcast_S_S2x16384x1024 (constant (F := Ideal) S_ .f32 0x3F800000#32) (ix3 b r ch) = Ideal.ofBits .f32 0x3F800000#32 :=
    broadcastInDim_scalar_apply _ _ _
  exact congrArg₂ Ideal.div sum (congrArg₂ (fun y z : EReal => y + z) one (congrArg (fun y : EReal => Ideal.exp (-y)) sum))

end Cert.ReferenceIdeal.Conv

end
-- ==== Proof.Value.lean ====
/-
  THE EQUATION: a device's result is its block of the reference's result.

  Row `r` of device `c` is row `4096 c + r` of the whole array. The kernel's padded row `r + 5 + t` on device `c` is the
  reference's padded row `4096 c + r + t`: from row 8 on the device's own row, before it a row of the device before it,
  or zero on device 0. So both add up the same four products, in two orders, and gate the sum.
-/
module

public import proofs.«01_k».proof.Proof.Protocol
public import proofs.«01_k».proof.Proof.Reference
public import Idealize.ShloMosaic.Lib.Layout

@[expose] public section

set_option maxRecDepth 16384

noncomputable section

namespace Cert.KernelIdeal.Conv

open Cert.KernelIdeal Cert.KernelIdeal.Gen
open Idealize.ShloMosaic Idealize.ShloMosaic.ValueIdx Idealize.ShloMosaic.TcCoe

/-- A whole array of the reference's shape. -/
abbrev Whole := FVec Ideal Cert.ReferenceIdeal.S2x16384x1024 .f32

/-- The shape facts of the cut into four blocks of 4096 rows. -/
theorem tiles : Layout.Tiles ⟨3, ![2, 4096, 1024]⟩ ⟨3, ![2, 16384, 1024]⟩ 1 4 := by decide

/-- Device `c`'s block of a whole array, at row `r`, is the array's row `4096 c + r`. -/
theorem block_row (X : Whole) (c : Fin 4) (b : Fin 2) (r : Fin 4096) (ch : Fin 1024) :
    Layout.block ⟨3, ![2, 4096, 1024]⟩ ⟨3, ![2, 16384, 1024]⟩ 1 4 c X tiles (ix3 b r ch)
      = X (ix3 b ⟨4096 * c.val + r.val, by omega⟩ ch) := by
  rw [Layout.block_apply]
  refine congrArg X (funext fun a => Fin.ext ?_)
  match a with
  | ⟨0, _⟩ => rfl
  | ⟨1, _⟩ => show c.val * 4096 + r.val = 4096 * c.val + r.val; omega
  | ⟨2, _⟩ => rfl

variable (X : Whole)

/-- The padded buffer of device `c`, whose rows and whose neighbour's rows are blocks of `X`, at row `r + (5 + t)`:
    the reference's padded row `4096 c + r + t`. -/
theorem padded_row (c : Fin 4) (b : Fin 2) (r : Fin 4096) (ch : Fin 1024) (t : Nat) (ht : t ≤ 3)
    (xl x : FVec Ideal S2x4096x1024 .f32)
    (hxl : ∀ r : Fin 4096, xl (ix3 b r ch) = X (ix3 b ⟨4096 * ((c.val + 3) % 4) + r.val, by omega⟩ ch))
    (hx : ∀ r : Fin 4096, x (ix3 b r ch) = X (ix3 b ⟨4096 * c.val + r.val, by omega⟩ ch)) :
    padded (F := Ideal) (c.val = 0) xl x (ix3 b (⟨r.val + (5 + t), by omega⟩ : Fin 4104) ch)
      = Cert.ReferenceIdeal.Conv.padRow X b (4096 * c.val + r.val + t) (by omega) ch := by
  unfold padded landed Cert.ReferenceIdeal.Conv.padRow
  by_cases h8 : r.val + (5 + t) < 8
  · by_cases hc : c.val = 0
    · rw [if_pos ⟨hc, h8⟩, dif_pos (show 4096 * c.val + r.val + t < 3 by omega)]
      exact Ideal.ofBits_zero_f32
    · rw [if_neg (fun h => hc h.1), dif_pos h8, dif_neg (show ¬ 4096 * c.val + r.val + t < 3 by omega)]
      refine (hxl _).trans (congrArg (fun R => X (ix3 b R ch)) (Fin.ext ?_))
      show 4096 * ((c.val + 3) % 4) + (4088 + (r.val + (5 + t))) = 4096 * c.val + r.val + t - 3
      omega
  · rw [if_neg (fun h => h8 h.2), dif_neg h8, dif_neg (show ¬ 4096 * c.val + r.val + t < 3 by omega)]
    refine (hx _).trans (congrArg (fun R => X (ix3 b R ch)) (Fin.ext ?_))
    show 4096 * c.val + (r.val + (5 + t) - 8) = 4096 * c.val + r.val + t - 3
    omega

/-- The kernel's gate over the extended reals is the reference's. -/
theorem gate_eq (a : EReal) : gate (F := Ideal) a = Cert.ReferenceIdeal.Conv.gated a := by
  show Ideal.div a (Ideal.ofBits .f32 0x3F800000#32 + Ideal.exp (Ideal.ofBits .f32 0x00000000#32 - a)) = _
  rw [Ideal.ofBits_zero_f32, zero_sub]
  rfl

/-- The kernel's order of summation gives the reference's sum. -/
theorem order (p0 p1 p2 p3 : EReal) : ((p3 + p0) + p1) + p2 = (((0 + p0) + p1) + p2) + p3 := by
  rw [zero_add, add_comm p3 p0, add_right_comm p0 p3 p1, add_right_comm (p0 + p1) p3 p2]

/-- From launch memories where each device holds its block of the reference's `x` and the whole filter, device `c`'s
    result is block `c` of the reference's result. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (d : Dev Cert.ReferenceIdeal.nD)
    (hx : ∀ c : Dev nD, xs m c = Layout.block ⟨3, ![2, 4096, 1024]⟩ ⟨3, ![2, 16384, 1024]⟩ 1 4 c
      (m' ((d.tc : Thread Cert.ReferenceIdeal.nD Cert.ReferenceIdeal.τ).loc Cert.ReferenceIdeal.main_arg0)) tiles)
    (hk : ∀ c : Dev nD, ks m c = m' ((d.tc : Thread Cert.ReferenceIdeal.nD Cert.ReferenceIdeal.τ).loc Cert.ReferenceIdeal.main_arg1))
    (c : Dev nD) :
    outAt m c = Layout.block ⟨3, ![2, 4096, 1024]⟩ ⟨3, ![2, 16384, 1024]⟩ 1 4 c (Cert.ReferenceIdeal.Value.res_out0 m' d) tiles := by
  funext i
  obtain ⟨b, r, ch, rfl⟩ : ∃ (b : Fin 2) (r : Fin 4096) (ch : Fin 1024), i = ix3 b r ch := ⟨i 0, i 1, i 2, eq_ix3 i⟩
  refine Eq.trans ?_ ((block_row _ c b r ch).trans (Cert.ReferenceIdeal.Conv.result_apply m' d b _ ch)).symm
  have row : ∀ (t : Nat) (ht : t ≤ 3), paddedAt m c (ix3 b (⟨r.val + (5 + t), by omega⟩ : Fin 4104) ch)
      = Cert.ReferenceIdeal.Conv.padRow
          (m' ((d.tc : Thread Cert.ReferenceIdeal.nD Cert.ReferenceIdeal.τ).loc Cert.ReferenceIdeal.main_arg0)) b
          (4096 * c.val + r.val + t) (by have := c.isLt; have : nD = 4 := rfl; omega) ch := fun t ht =>
    padded_row _ c b r ch t ht (xs m (prv c)) (xs m c)
      (fun r => (congrFun (hx (prv c)) _).trans (block_row _ _ b r ch)) (fun r => (congrFun (hx c) _).trans (block_row _ _ b r ch))
  refine (gate_eq _).trans (congrArg Cert.ReferenceIdeal.Conv.gated ?_)
  have prod : ∀ (t : Nat) (ht : t ≤ 3), (paddedAt m c (ix3 b (⟨r.val + (5 + t), by omega⟩ : Fin 4104) ch) : EReal) * ks m c (ix2 (⟨t, by omega⟩ : Fin 4) ch)
      = Cert.ReferenceIdeal.Conv.padRow
          (m' ((d.tc : Thread Cert.ReferenceIdeal.nD Cert.ReferenceIdeal.τ).loc Cert.ReferenceIdeal.main_arg0)) b
          (4096 * c.val + r.val + t) (by have := c.isLt; have : nD = 4 := rfl; omega) ch
        * m' ((d.tc : Thread Cert.ReferenceIdeal.nD Cert.ReferenceIdeal.τ).loc Cert.ReferenceIdeal.main_arg1) (ix2 (⟨t, by omega⟩ : Fin 4) ch) :=
    fun t ht => congrArg₂ (fun y z : EReal => y * z) (row t ht) (congrFun (hk c) _)
  exact (congrArg₂ (fun y z : EReal => y + z) (congrArg₂ (fun y z : EReal => y + z)
    (congrArg₂ (fun y z : EReal => y + z) (prod 3 (by omega)) (prod 0 (by omega))) (prod 1 (by omega))) (prod 2 (by omega))).trans
    (order _ _ _ _)

end Cert.KernelIdeal.Conv

end
-- ==== Proof.lean ====
/-
  THE CERTIFICATE, assembled: the three frames, the idealization, and the equation with the reference.

  The kernel's run is proved once, for any float values (Proof/Launch.lean `run_main`); the frames read it at the bit
  patterns and at the extended reals. The reference's run is the generated one, and it has no semaphores.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem
open Cert.KernelIdeal.Conv (run_main out_eq)

/-- For any float values: the kernel runs, leaves its arguments unchanged and every counter at zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (run_main (F := F) m ρ)

/-- The two programs have the same body: they are one text, printed twice. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- So their body tables are the same. -/
theorem tables_eq {F : FTy → Type} [FloatOps F] : Cert.Kernel.defs (F := F) = Cert.KernelIdeal.defs (F := F) :=
  congrArg (Pipeline.defs Cert.KernelIdeal.pcfgs) bodies_eq

/-- So the kernel as printed runs alike, over the bit patterns. -/
theorem frame_kernel : Cert.quiescent_Kernel := fun m ρ _ => by
  have h := frame_run (F := Bits) m ρ
  rw [← tables_eq] at h
  exact h

/-- And the kernel over the extended reals. -/
theorem frame_kernelIdeal : Cert.quiescent_KernelIdeal := fun m ρ _ => frame_run (F := Ideal) m ρ

/-- The same of the reference over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the reference's `x` and the whole filter, each device ends with its block of the reference's result. -/
theorem equation : Cert.algebraic_KernelIdeal_ReferenceIdeal := fun m g m' g' _ hargs =>
  ⟨Cert.ReferenceIdeal.Value.res_out0 m' 0,
    (θ_run Cert.KernelIdeal.defs _ _).mono
      (fun _ h c => ⟨(h.1 c).2.2.trans (out_eq m m' 0 (fun c => (hargs c).1) (fun c => (hargs c).2) c), (h.1 c).1, (h.1 c).2.1⟩)
      (run_main (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, equation⟩

end Cert.Proof

end
